-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S16384x2048 : Shape := ⟨2, ![16384, 2048]⟩
abbrev S1x2048x12288 : Shape := ⟨3, ![1, 2048, 12288]⟩
abbrev S1x4x64 : Shape := ⟨3, ![1, 4, 64]⟩
abbrev S1x1024 : Shape := ⟨2, ![1, 1024]⟩
abbrev S_ : Shape := ⟨0, ![]⟩
abbrev S1x2048x3072 : Shape := ⟨3, ![1, 2048, 3072]⟩

class Facts : Prop where
  bcast_S_S16384x2048 : S_.BroadcastsInDim S16384x2048 (![] : Fin 0 → Fin S16384x2048.rank)
  slices_S1x2048x12288_S1x2048x3072_0_0_5120 : S1x2048x12288.Slices ![0, 0, 5120] S1x2048x3072
  bcast_S_S1x2048x3072 : S_.BroadcastsInDim S1x2048x3072 (![] : Fin 0 → Fin S1x2048x3072.rank)
  bcast_S_S1x4x64 : S_.BroadcastsInDim S1x4x64 (![] : Fin 0 → Fin S1x4x64.rank)

variable [Facts]

def fn {F : FTy → Type} [FloatOps F] (main_arg0 : FVec F S16384x2048 .bf16) (main_arg1 : FVec F S1x2048x12288 .f32) (main_arg2 : FVec F S1x4x64 .f32) (main_arg3 : FVec F S1x1024 .f32) : IVec S16384x2048 1 × IVec S1x2048x3072 1 × IVec S1x4x64 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_v3 : FVec F S1x2048x3072 .f32 := (extractStridedSlice S1x2048x3072 ![0, 0, 5120] · slices_S1x2048x12288_S1x2048x3072_0_0_5120) main_arg1
  let main_v4 : FVec F S1x2048x3072 .f32 := Host.absf main_v3
  let main_cst_0 : FVec F S_ .f32 := constant S_ .f32 0x7F800000#32
  let main_v5 : FVec F S1x2048x3072 .f32 := broadcastInDim S1x2048x3072 ![] bcast_S_S1x2048x3072 main_cst_0
  let main_v6 : IVec S1x2048x3072 1 := cmpf .olt main_v4 main_v5
  let main_v7 : FVec F S1x4x64 .f32 := Host.absf main_arg2
  let main_cst_1 : FVec F S_ .f32 := constant S_ .f32 0x7F800000#32
  let main_v8 : FVec F S1x4x64 .f32 := broadcastInDim S1x4x64 ![] bcast_S_S1x4x64 main_cst_1
  let main_v9 : IVec S1x4x64 1 := cmpf .olt main_v7 main_v8
  (main_v2, main_v6, main_v9)
-- ==== Pre_finite4.lean ====
abbrev S16384x2048 : Shape := ⟨2, ![16384, 2048]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S_ : Shape := ⟨0, ![]⟩

class Facts : Prop where
  bcast_S_S1x2048 : S_.BroadcastsInDim S1x2048 (![] : Fin 0 → Fin S1x2048.rank)
  bcast_S_S1x2048x2048 : S_.BroadcastsInDim S1x2048x2048 (![] : Fin 0 → Fin S1x2048x2048.rank)
  bcast_S_S1x8x2x128x128 : S_.BroadcastsInDim S1x8x2x128x128 (![] : Fin 0 → Fin S1x8x2x128x128.rank)

variable [Facts]

def fn {F : FTy → Type} [FloatOps F] (main_arg0 : FVec F S16384x2048 .f32) (main_arg1 : FVec F S1x2048 .f32) (main_arg2 : FVec F S1x2048x2048 .f32) (main_arg3 : FVec F S1x8x2x128x128 .f32) : IVec S1x2048 1 × IVec S1x2048x2048 1 × IVec S1x8x2x128x128 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048x2048 .f32 := Host.absf main_arg2
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1x8x2x128x128 .f32 := Host.absf main_arg3
  let main_cst_1 : FVec F S_ .f32 := constant S_ .f32 0x7F800000#32
  let main_v7 : FVec F S1x8x2x128x128 .f32 := broadcastInDim S1x8x2x128x128 ![] bcast_S_S1x8x2x128x128 main_cst_1
  let main_v8 : IVec S1x8x2x128x128 1 := cmpf .olt main_v6 main_v7
  (main_v2, main_v5, main_v8)
-- ==== Kernel.lean ====
abbrev S16384x2048 : Shape := ⟨2, ![16384, 2048]⟩
abbrev S1x2048x12288 : Shape := ⟨3, ![1, 2048, 12288]⟩
abbrev S1x4x64 : Shape := ⟨3, ![1, 4, 64]⟩
abbrev S1x1024 : Shape := ⟨2, ![1, 1024]⟩
abbrev S2048x12288 : Shape := ⟨2, ![2048, 12288]⟩
abbrev S2048x1024 : Shape := ⟨2, ![2048, 1024]⟩
abbrev S2048x2048 : Shape := ⟨2, ![2048, 2048]⟩
abbrev S4x2048x4096 : Shape := ⟨3, ![4, 2048, 4096]⟩
abbrev S1024x2048 : Shape := ⟨2, ![1024, 2048]⟩
abbrev S1x1024x1024 : Shape := ⟨3, ![1, 1024, 1024]⟩
abbrev S1024x1024 : Shape := ⟨2, ![1024, 1024]⟩
abbrev S4x8x4096x256 : Shape := ⟨4, ![4, 8, 4096, 256]⟩
abbrev S2048x256 : Shape := ⟨2, ![2048, 256]⟩
abbrev S1x2x1024x256 : Shape := ⟨4, ![1, 2, 1024, 256]⟩
abbrev S1024x256 : Shape := ⟨2, ![1024, 256]⟩
abbrev S1024x128 : Shape := ⟨2, ![1024, 128]⟩
abbrev S1x1x1024x256 : Shape := ⟨4, ![1, 1, 1024, 256]⟩
abbrev S4x64 : Shape := ⟨2, ![4, 64]⟩
abbrev S1024 : Shape := ⟨1, ![1024]⟩
abbrev S64x128x4096 : Shape := ⟨3, ![64, 128, 4096]⟩
abbrev S16384x1024 : Shape := ⟨2, ![16384, 1024]⟩
abbrev S1x128x1024 : Shape := ⟨3, ![1, 128, 1024]⟩
abbrev S1x1x4096x256 : Shape := ⟨4, ![1, 1, 4096, 256]⟩
abbrev S1x128x4096 : Shape := ⟨3, ![1, 128, 4096]⟩
abbrev S1x128 : Shape := ⟨2, ![1, 128]⟩
abbrev S2x2x256x1024 : Shape := ⟨4, ![2, 2, 256, 1024]⟩
abbrev S2x1x1024 : Shape := ⟨3, ![2, 1, 1024]⟩
abbrev S2x128x1024 : Shape := ⟨3, ![2, 128, 1024]⟩
abbrev S128x1024 : Shape := ⟨2, ![128, 1024]⟩
abbrev S256x1024 : Shape := ⟨2, ![256, 1024]⟩
abbrev S1x1x256x1024 : Shape := ⟨4, ![1, 1, 256, 1024]⟩
abbrev S1x1x1024 : Shape := ⟨3, ![1, 1, 1024]⟩
abbrev S1x1x1024x128 : Shape := ⟨4, ![1, 1, 1024, 128]⟩
abbrev S1x1x128x1024 : Shape := ⟨4, ![1, 1, 128, 1024]⟩
abbrev S1x64 : Shape := ⟨2, ![1, 64]⟩
abbrev S1 : Shape := ⟨1, ![1]⟩
abbrev S1x1 : Shape := ⟨2, ![1, 1]⟩

abbrev nBuf : Space → Nat
  | .hbm => 19
  | .vmem => 27
  | .smem => 0
  | _ => 0

abbrev bufTy : (tb : Table) → Fin (tcTables nBuf tb) → BufTy
  | .hbm, ⟨0, _⟩ => ⟨S16384x2048, .bf16⟩
  | .hbm, ⟨1, _⟩ => ⟨S1x2048x12288, .f32⟩
  | .hbm, ⟨2, _⟩ => ⟨S1x4x64, .f32⟩
  | .hbm, ⟨3, _⟩ => ⟨S1x1024, .f32⟩
  | .hbm, ⟨4, _⟩ => ⟨S2048x12288, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x1024, .f32⟩
  | .hbm, ⟨11, _⟩ => ⟨S2048x1024, .bf16⟩
  | .hbm, ⟨12, _⟩ => ⟨S4x2048x4096, .bf16⟩
  | .hbm, ⟨13, _⟩ => ⟨S4x8x4096x256, .bf16⟩
  | .hbm, ⟨14, _⟩ => ⟨S4x64, .f32⟩
  | .hbm, ⟨15, _⟩ => ⟨S1024, .f32⟩
  | .hbm, ⟨16, _⟩ => ⟨S64x128x4096, .bf16⟩
  | .hbm, ⟨17, _⟩ => ⟨S1x1024, .f32⟩
  | .hbm, ⟨18, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x256, .bf16⟩
  | .local _ .vmem, ⟨9, _⟩ => ⟨S2048x256, .bf16⟩
  | .local _ .vmem, ⟨10, _⟩ => ⟨S1x2x1024x256, .bf16⟩
  | .local _ .vmem, ⟨11, _⟩ => ⟨S1x2x1024x256, .bf16⟩
  | .local _ .vmem, ⟨12, _⟩ => ⟨S1x128x1024, .bf16⟩
  | .local _ .vmem, ⟨13, _⟩ => ⟨S1x128x1024, .bf16⟩
  | .local _ .vmem, ⟨14, _⟩ => ⟨S1x1x4096x256, .bf16⟩
  | .local _ .vmem, ⟨15, _⟩ => ⟨S1x1x4096x256, .bf16⟩
  | .local _ .vmem, ⟨16, _⟩ => ⟨S1x128x4096, .bf16⟩
  | .local _ .vmem, ⟨17, _⟩ => ⟨S1x128x4096, .bf16⟩
  | .local _ .vmem, ⟨18, _⟩ => ⟨S4x64, .f32⟩
  | .local _ .vmem, ⟨19, _⟩ => ⟨S1x128, .f32⟩
  | .local _ .vmem, ⟨20, _⟩ => ⟨S1x128, .f32⟩
  | .local _ .vmem, ⟨21, _⟩ => ⟨S1024x128, .bf16⟩
  | .local _ .vmem, ⟨22, _⟩ => ⟨S1024x128, .bf16⟩
  | .local _ .vmem, ⟨23, _⟩ => ⟨S2x2x256x1024, .bf16⟩
  | .local _ .vmem, ⟨24, _⟩ => ⟨S2x1x1024, .f32⟩
  | .local _ .vmem, ⟨25, _⟩ => ⟨S2x1x1024, .f32⟩
  | .local _ .vmem, ⟨26, _⟩ => ⟨S2x128x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_scratch0 : Ref sig .tc := ⟨.vmem, 23, rfl⟩
abbrev cc2_scratch1 : Ref sig .tc := ⟨.vmem, 24, rfl⟩
abbrev cc2_scratch2 : Ref sig .tc := ⟨.vmem, 25, rfl⟩
abbrev cc2_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![4, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1x2x1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨3, ![4, 8, 4], ![false, false, false]⟩

@[reducible] def k2_t1_loop : Scf.Loop 32 :=
  let c0_i32_38 : BitVec 32 := 0#32
  let c3_i32_39 : BitVec 32 := 3#32
  let v81 : BitVec 32 := Scalar.addi c0_i32_38 c3_i32_39
  let c1_i32_40 : BitVec 32 := 1#32
  ⟨c0_i32_38, v81, c1_i32_40⟩
def k2_mult1 (i : grid2.Coords) (k2_t1 : Fin k2_t1_loop.trips) : BitVec 32 :=
  let c0_i32_38 : BitVec 32 := 0#32
  let c1_i32_40 : BitVec 32 := 1#32
  let arg13 : BitVec 32 := Scf.iv c0_i32_38 c1_i32_40 k2_t1
  let arg2 : BitVec 32 := BitVec.ofNat 32 (i 2).val
  let v221 : BitVec 1 := Scalar.cmpi .sge arg13 arg2
  let v222 : BitVec 32 := Scalar.extui v221
  let v223 : BitVec 32 := Scalar.addi arg13 v222
  let c1024_i32_126 : BitVec 32 := 1024#32
  let v226 : BitVec 32 := Scalar.muli v223 c1024_i32_126
  v226
def k2_off1 (i : grid2.Coords) (k2_t1 : Fin k2_t1_loop.trips) : Fin 4 → Nat :=
  let c0_127 : Index := 0#32
  let c0_128 : Index := 0#32
  let c0_i32_38 : BitVec 32 := 0#32
  let c1_i32_40 : BitVec 32 := 1#32
  let arg13 : BitVec 32 := Scf.iv c0_i32_38 c1_i32_40 k2_t1
  let arg2 : BitVec 32 := BitVec.ofNat 32 (i 2).val
  let v221 : BitVec 1 := Scalar.cmpi .sge arg13 arg2
  let v222 : BitVec 32 := Scalar.extui v221
  let v223 : BitVec 32 := Scalar.addi arg13 v222
  let c1024_i32_126 : BitVec 32 := 1024#32
  let v226 : BitVec 32 := Scalar.muli v223 c1024_i32_126
  let v227 : BitVec 32 := v226
  let v228 : Index := Scalar.indexCast v227
  let c0_129 : Index := 0#32
  ![0, 0, v228.toNat, 0]
def k2_off2 (i : grid2.Coords) (k2_t1 : Fin k2_t1_loop.trips) : Fin 3 → Nat :=
  let c0_130 : Index := 0#32
  let c0_131 : Index := 0#32
  let c0_i32_38 : BitVec 32 := 0#32
  let c1_i32_40 : BitVec 32 := 1#32
  let arg13 : BitVec 32 := Scf.iv c0_i32_38 c1_i32_40 k2_t1
  let arg2 : BitVec 32 := BitVec.ofNat 32 (i 2).val
  let v221 : BitVec 1 := Scalar.cmpi .sge arg13 arg2
  let v222 : BitVec 32 := Scalar.extui v221
  let v223 : BitVec 32 := Scalar.addi arg13 v222
  let c1024_i32_126 : BitVec 32 := 1024#32
  let v226 : BitVec 32 := Scalar.muli v223 c1024_i32_126
  let v227 : BitVec 32 := v226
  let v231 : Index := Scalar.indexCast v227
  ![0, 0, v231.toNat]
def k2_off3 (i : grid2.Coords) (k2_t1 : Fin k2_t1_loop.trips) : Fin 4 → Nat :=
  let c0_132 : Index := 0#32
  let c0_i32_38 : BitVec 32 := 0#32
  let c1_i32_40 : BitVec 32 := 1#32
  let arg13 : BitVec 32 := Scf.iv c0_i32_38 c1_i32_40 k2_t1
  let arg2 : BitVec 32 := BitVec.ofNat 32 (i 2).val
  let v221 : BitVec 1 := Scalar.cmpi .sge arg13 arg2
  let v222 : BitVec 32 := Scalar.extui v221
  let v223 : BitVec 32 := Scalar.addi arg13 v222
  let v224 : BitVec 1 := Scalar.cmpi .sgt v223 arg2
  let v225 : BitVec 32 := Scalar.extui v224
  let v234 : Index := Scalar.indexCast v225
  let c0_133 : Index := 0#32
  let c0_134 : Index := 0#32
  ![0, v234.toNat, 0, 0]
def k2_off4 (i : grid2.Coords) (k2_t1 : Fin k2_t1_loop.trips) : Fin 4 → Nat :=
  let c1_136 : Index := 1#32
  let c0_i32_38 : BitVec 32 := 0#32
  let c1_i32_40 : BitVec 32 := 1#32
  let arg13 : BitVec 32 := Scf.iv c0_i32_38 c1_i32_40 k2_t1
  let arg2 : BitVec 32 := BitVec.ofNat 32 (i 2).val
  let v221 : BitVec 1 := Scalar.cmpi .sge arg13 arg2
  let v222 : BitVec 32 := Scalar.extui v221
  let v223 : BitVec 32 := Scalar.addi arg13 v222
  let v224 : BitVec 1 := Scalar.cmpi .sgt v223 arg2
  let v225 : BitVec 32 := Scalar.extui v224
  let v238 : Index := Scalar.indexCast v225
  let c0_137 : Index := 0#32
  let c0_138 : Index := 0#32
  ![1, v238.toNat, 0, 0]
def k2_mult2 (i : grid2.Coords) : BitVec 32 :=
  let arg2 : BitVec 32 := BitVec.ofNat 32 (i 2).val
  let c1024_i32_42 : BitVec 32 := 1024#32
  let v82 : BitVec 32 := Scalar.muli arg2 c1024_i32_42
  v82
def k2_off5 (i : grid2.Coords) : Fin 4 → Nat :=
  let c0_43 : Index := 0#32
  let c0_44 : Index := 0#32
  let arg2 : BitVec 32 := BitVec.ofNat 32 (i 2).val
  let c1024_i32_42 : BitVec 32 := 1024#32
  let v82 : BitVec 32 := Scalar.muli arg2 c1024_i32_42
  let v83 : BitVec 32 := v82
  let v84 : Index := Scalar.indexCast v83
  let c0_45 : Index := 0#32
  ![0, 0, v84.toNat, 0]
def k2_off6 (i : grid2.Coords) : Fin 3 → Nat :=
  let c0_46 : Index := 0#32
  let c0_47 : Index := 0#32
  let arg2 : BitVec 32 := BitVec.ofNat 32 (i 2).val
  let c1024_i32_42 : BitVec 32 := 1024#32
  let v82 : BitVec 32 := Scalar.muli arg2 c1024_i32_42
  let v83 : BitVec 32 := v82
  let v87 : Index := Scalar.indexCast v83
  ![0, 0, v87.toNat]
def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c8_i32 : BitVec 32 := 8#32
  let v1 : BitVec 32 := Scalar.muli v0 c8_i32
  let v2 : BitVec 32 := Scalar.addi v1 arg1
  let c0_i32 : BitVec 32 := 0#32
  let c0_i32_0 : BitVec 32 := 0#32
  ![v2.toNat, c0_i32.toNat, arg2.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c8_i32 : BitVec 32 := 8#32
  let v1 : BitVec 32 := Scalar.muli v0 c8_i32
  let c8_i32_0 : BitVec 32 := 8#32
  let v2 : BitVec 32 := Scalar.addi v1 c8_i32_0
  let v3 : BitVec 32 := Scalar.addi v2 arg1
  let c0_i32 : BitVec 32 := 0#32
  let c0_i32_1 : BitVec 32 := 0#32
  let c0_i32_2 : BitVec 32 := 0#32
  ![v3.toNat, c0_i32.toNat, c0_i32_1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage2_0 : Fin 2 → Memref sig .tc .vmem S1x128x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1x4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x128x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 1 → Memref sig .tc .vmem S4x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S1024x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]
-- ==== ReferenceIdeal.lean ====
abbrev S16384x2048 : Shape := ⟨2, ![16384, 2048]⟩
abbrev S1x2048x12288 : Shape := ⟨3, ![1, 2048, 12288]⟩
abbrev S1x4x64 : Shape := ⟨3, ![1, 4, 64]⟩
abbrev S1x1024 : Shape := ⟨2, ![1, 1024]⟩
abbrev S2048x12288 : Shape := ⟨2, ![2048, 12288]⟩
abbrev S16384x12288 : Shape := ⟨2, ![16384, 12288]⟩
abbrev S16384x1024 : Shape := ⟨2, ![16384, 1024]⟩
abbrev S16384x4096 : Shape := ⟨2, ![16384, 4096]⟩
abbrev S4x4096x8x2x64 : Shape := ⟨5, ![4, 4096, 8, 2, 64]⟩
abbrev S4x4096x8x128 : Shape := ⟨4, ![4, 4096, 8, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S8 : Shape := ⟨1, ![8]⟩
abbrev S4096 : Shape := ⟨1, ![4096]⟩
abbrev S4x8x2x4096x4096 : Shape := ⟨5, ![4, 8, 2, 4096, 4096]⟩
abbrev S4096x1 : Shape := ⟨2, ![4096, 1]⟩
abbrev S1x4096 : Shape := ⟨2, ![1, 4096]⟩
abbrev S4096x4096 : Shape := ⟨2, ![4096, 4096]⟩
abbrev S1x8x1x1x1 : Shape := ⟨5, ![1, 8, 1, 1, 1]⟩
abbrev S1x1x1x4096x4096 : Shape := ⟨5, ![1, 1, 1, 4096, 4096]⟩
abbrev S1x8x1x4096x4096 : Shape := ⟨5, ![1, 8, 1, 4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S4x8x128x4096 : Shape := ⟨4, ![4, 8, 128, 4096]⟩
abbrev S1024 : Shape := ⟨1, ![1024]⟩
abbrev S8x128 : Shape := ⟨2, ![8, 128]⟩
abbrev S4x4096x8 : Shape := ⟨3, ![4, 4096, 8]⟩
abbrev S4x4096x8x1 : Shape := ⟨4, ![4, 4096, 8, 1]⟩
abbrev S1x1x8x128 : Shape := ⟨4, ![1, 1, 8, 128]⟩

abbrev nBuf : Space → Nat
  | .hbm => 117
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x12288, .f32⟩
  | .hbm, ⟨2, _⟩ => ⟨S1x4x64, .f32⟩
  | .hbm, ⟨3, _⟩ => ⟨S1x1024, .f32⟩
  | .hbm, ⟨4, _⟩ => ⟨S16384x2048, .f32⟩
  | .hbm, ⟨5, _⟩ => ⟨S2048x12288, .f32⟩
  | .hbm, ⟨6, _⟩ => ⟨S16384x12288, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x4096, .f32⟩
  | .hbm, ⟨16, _⟩ => ⟨S4x4096x8x2x64, .f32⟩
  | .hbm, ⟨17, _⟩ => ⟨S4x4096x8x2x64, .f32⟩
  | .hbm, ⟨18, _⟩ => ⟨S4x4096x8x128, .f32⟩
  | .hbm, ⟨19, _⟩ => ⟨S4x64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S4096, .i32⟩
  | .hbm, ⟨53, _⟩ => ⟨S4x8x2x4096x4096, .f32⟩
  | .hbm, ⟨54, _⟩ => ⟨S_, .f32⟩
  | .hbm, ⟨55, _⟩ => ⟨S4x8x2x4096x4096, .f32⟩
  | .hbm, ⟨56, _⟩ => ⟨S4x8x2x4096x4096, .f32⟩
  | .hbm, ⟨57, _⟩ => ⟨S4096x1, .i32⟩
  | .hbm, ⟨58, _⟩ => ⟨S1x4096, .i32⟩
  | .hbm, ⟨59, _⟩ => ⟨S4096x4096, .i32⟩
  | .hbm, ⟨60, _⟩ => ⟨S4096x4096, .i32⟩
  | .hbm, ⟨61, _⟩ => ⟨S4096x4096, .i32⟩
  | .hbm, ⟨62, _⟩ => ⟨S4096x4096, .i32⟩
  | .hbm, ⟨63, _⟩ => ⟨S4096x4096, .f32⟩
  | .hbm, ⟨64, _⟩ => ⟨S1x8x1x1x1, .f32⟩
  | .hbm, ⟨65, _⟩ => ⟨S1x1x1x4096x4096, .f32⟩
  | .hbm, ⟨66, _⟩ => ⟨S1x8x1x4096x4096, .f32⟩
  | .hbm, ⟨67, _⟩ => ⟨S1x8x1x4096x4096, .f32⟩
  | .hbm, ⟨68, _⟩ => ⟨S1x8x1x4096x4096, .f32⟩
  | .hbm, ⟨69, _⟩ => ⟨S4x8x2x4096x4096, .f32⟩
  | .hbm, ⟨70, _⟩ => ⟨S4x8x2x4096x4096, .f32⟩
  | .hbm, ⟨71, _⟩ => ⟨S_, .f32⟩
  | .hbm, ⟨72, _⟩ => ⟨S4x8x2x4096, .f32⟩
  | .hbm, ⟨73, _⟩ => ⟨S_, .f32⟩
  | .hbm, ⟨74, _⟩ => ⟨S4x8x2x4096, .f32⟩
  | .hbm, ⟨75, _⟩ => ⟨S4x8x2x4096, .f32⟩
  | .hbm, ⟨76, _⟩ => ⟨S4x8x2x4096x1, .f32⟩
  | .hbm, ⟨77, _⟩ => ⟨S4x8x2x4096x4096, .f32⟩
  | .hbm, ⟨78, _⟩ => ⟨S4x8x2x4096x4096, .f32⟩
  | .hbm, ⟨79, _⟩ => ⟨S4x8x2x4096x4096, .f32⟩
  | .hbm, ⟨80, _⟩ => ⟨S_, .f32⟩
  | .hbm, ⟨81, _⟩ => ⟨S4x8x2x4096, .f32⟩
  | .hbm, ⟨82, _⟩ => ⟨S4x8x2x4096x1, .f32⟩
  | .hbm, ⟨83, _⟩ => ⟨S4x8x2x4096x4096, .f32⟩
  | .hbm, ⟨84, _⟩ => ⟨S4x8x2x4096x4096, .f32⟩
  | .hbm, ⟨85, _⟩ => ⟨S4x8x1x4096x4096, .f32⟩
  | .hbm, ⟨86, _⟩ => ⟨S4x8x4096x4096, .f32⟩
  | .hbm, ⟨87, _⟩ => ⟨S4x8x1x4096x4096, .f32⟩
  | .hbm, ⟨88, _⟩ => ⟨S4x8x4096x4096, .f32⟩
  | .hbm, ⟨89, _⟩ => ⟨S4x8x4096x4096, .f32⟩
  | .hbm, ⟨90, _⟩ => ⟨S4x8x4096x4096, .f32⟩
  | .hbm, ⟨91, _⟩ => ⟨S4x8x4096x4096, .f32⟩
  | .hbm, ⟨92, _⟩ => ⟨S4x8x128x4096, .f32⟩
  | .hbm, ⟨93, _⟩ => ⟨S4x4096x8x128, .f32⟩
  | .hbm, ⟨94, _⟩ => ⟨S1024, .f32⟩
  | .hbm, ⟨95, _⟩ => ⟨S8x128, .f32⟩
  | .hbm, ⟨96, _⟩ => ⟨S4x4096x8x128, .f32⟩
  | .hbm, ⟨97, _⟩ => ⟨S_, .f32⟩
  | .hbm, ⟨98, _⟩ => ⟨S4x4096x8, .f32⟩
  | .hbm, ⟨99, _⟩ => ⟨S4x4096x8x1, .f32⟩
  | .hbm, ⟨100, _⟩ => ⟨S_, .f32⟩
  | .hbm, ⟨101, _⟩ => ⟨S4x4096x8x1, .f32⟩
  | .hbm, ⟨102, _⟩ => ⟨S4x4096x8x1, .f32⟩
  | .hbm, ⟨103, _⟩ => ⟨S_, .f32⟩
  | .hbm, ⟨104, _⟩ => ⟨S4x4096x8x1, .f32⟩
  | .hbm, ⟨105, _⟩ => ⟨S4x4096x8x1, .f32⟩
  | .hbm, ⟨106, _⟩ => ⟨S4x4096x8x1, .f32⟩
  | .hbm, ⟨107, _⟩ => ⟨S4x4096x8x128, .f32⟩
  | .hbm, ⟨108, _⟩ => ⟨S4x4096x8x128, .f32⟩
  | .hbm, ⟨109, _⟩ => ⟨S1x1x8x128, .f32⟩
  | .hbm, ⟨110, _⟩ => ⟨S4x4096x8x128, .f32⟩
  | .hbm, ⟨111, _⟩ => ⟨S4x4096x8x128, .f32⟩
  | .hbm, ⟨112, _⟩ => ⟨S_, .f32⟩
  | .hbm, ⟨113, _⟩ => ⟨S4x4096x8x128, .f32⟩
  | .hbm, ⟨114, _⟩ => ⟨S4x4096x8x128, .f32⟩
  | .hbm, ⟨115, _⟩ => ⟨S16384x1024, .f32⟩
  | .hbm, ⟨116, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_9 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_10 : Ref sig .tc := ⟨.hbm, 97, rfl⟩
abbrev main_v82 : Ref sig .tc := ⟨.hbm, 98, rfl⟩
abbrev main_v83 : Ref sig .tc := ⟨.hbm, 99, rfl⟩
abbrev main_cst_11 : Ref sig .tc := ⟨.hbm, 100, rfl⟩
abbrev main_v84 : Ref sig .tc := ⟨.hbm, 101, rfl⟩
abbrev main_v85 : Ref sig .tc := ⟨.hbm, 102, rfl⟩
abbrev main_cst_12 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_13 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S1x2048x12288 : Shape := ⟨3, ![1, 2048, 12288]⟩
abbrev S2048x12288 : Shape := ⟨2, ![2048, 12288]⟩
abbrev S2048x5120 : Shape := ⟨2, ![2048, 5120]⟩
abbrev S2048x4096 : Shape := ⟨2, ![2048, 4096]⟩
abbrev S2048 : Shape := ⟨1, ![2048]⟩
abbrev S512x2048 : Shape := ⟨2, ![512, 2048]⟩
abbrev S512 : Shape := ⟨1, ![512]⟩
abbrev S512x1 : Shape := ⟨2, ![512, 1]⟩
abbrev S16384x5120 : Shape := ⟨2, ![16384, 5120]⟩
abbrev S1024x2048 : Shape := ⟨2, ![1024, 2048]⟩
abbrev S2048x1024 : Shape := ⟨2, ![2048, 1024]⟩
abbrev S1024x1024 : Shape := ⟨2, ![1024, 1024]⟩
abbrev S16384x4096 : Shape := ⟨2, ![16384, 4096]⟩

abbrev nBuf : Space → Nat
  | .hbm => 13
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x12288, .f32⟩
  | .hbm, ⟨3, _⟩ => ⟨S2048x12288, .f32⟩
  | .hbm, ⟨4, _⟩ => ⟨S2048x5120, .f32⟩
  | .hbm, ⟨5, _⟩ => ⟨S2048x5120, .bf16⟩
  | .hbm, ⟨6, _⟩ => ⟨S2048x4096, .f32⟩
  | .hbm, ⟨7, _⟩ => ⟨S2048x4096, .bf16⟩
  | .hbm, ⟨8, _⟩ => ⟨S2048, .f32⟩
  | .hbm, ⟨9, _⟩ => ⟨S1x2048, .f32⟩
  | .hbm, ⟨10, _⟩ => ⟨S16384x2048, .bf16⟩
  | .hbm, ⟨11, _⟩ => ⟨S16384x5120, .f32⟩
  | .hbm, ⟨12, _⟩ => ⟨S16384x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference2Ideal.lean ====
abbrev S16384x2048 : Shape := ⟨2, ![16384, 2048]⟩
abbrev S1x2048 : Shape := ⟨2, ![1, 2048]⟩
abbrev S1x2048x12288 : Shape := ⟨3, ![1, 2048, 12288]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x12288 : Shape := ⟨2, ![2048, 12288]⟩
abbrev S16384x12288 : Shape := ⟨2, ![16384, 12288]⟩
abbrev S16384x5120 : Shape := ⟨2, ![16384, 5120]⟩
abbrev S16384x4096 : Shape := ⟨2, ![16384, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x12288, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x12288, .f32⟩
  | .hbm, ⟨21, _⟩ => ⟨S16384x12288, .f32⟩
  | .hbm, ⟨22, _⟩ => ⟨S16384x5120, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel3.lean ====
abbrev S16384x1024 : Shape := ⟨2, ![16384, 1024]⟩
abbrev S16384x5120 : Shape := ⟨2, ![16384, 5120]⟩
abbrev S1x1024 : Shape := ⟨2, ![1, 1024]⟩
abbrev S16384x4096 : Shape := ⟨2, ![16384, 4096]⟩
abbrev S1x1024x2048 : Shape := ⟨3, ![1, 1024, 2048]⟩
abbrev S1x2048x2048 : Shape := ⟨3, ![1, 2048, 2048]⟩
abbrev S16384x2048 : Shape := ⟨2, ![16384, 2048]⟩
abbrev S1024x2048 : Shape := ⟨2, ![1024, 2048]⟩
abbrev S1024 : Shape := ⟨1, ![1024]⟩
abbrev S512x1024 : Shape := ⟨2, ![512, 1024]⟩
abbrev S512x4096 : Shape := ⟨2, ![512, 4096]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 20
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5120, .f32⟩
  | .hbm, ⟨3, _⟩ => ⟨S1x1024, .f32⟩
  | .hbm, ⟨4, _⟩ => ⟨S16384x1024, .bf16⟩
  | .hbm, ⟨5, _⟩ => ⟨S16384x4096, .bf16⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S16384x2048, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S1024, .f32⟩
  | .hbm, ⟨15, _⟩ => ⟨S1x1024, .f32⟩
  | .hbm, ⟨16, _⟩ => ⟨S16384x2048, .bf16⟩
  | .hbm, ⟨17, _⟩ => ⟨S2048x2048, .f32⟩
  | .hbm, ⟨18, _⟩ => ⟨S2048x2048, .bf16⟩
  | .hbm, ⟨19, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .bf16⟩
  | .local _ .vmem, ⟨10, _⟩ => ⟨S512x4096, .bf16⟩
  | .local _ .vmem, ⟨11, _⟩ => ⟨S1024x2048, .bf16⟩
  | .local _ .vmem, ⟨12, _⟩ => ⟨S1024x2048, .bf16⟩
  | .local _ .vmem, ⟨13, _⟩ => ⟨S512x2048, .bf16⟩
  | .local _ .vmem, ⟨14, _⟩ => ⟨S512x2048, .bf16⟩
  | .local _ .vmem, ⟨15, _⟩ => ⟨S1024x2048, .bf16⟩
  | .local _ .vmem, ⟨16, _⟩ => ⟨S1024x2048, .bf16⟩
  | .local _ .vmem, ⟨17, _⟩ => ⟨S2048x1024, .bf16⟩
  | .local _ .vmem, ⟨18, _⟩ => ⟨S2048x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference3Ideal.lean ====
abbrev S16384x1024 : Shape := ⟨2, ![16384, 1024]⟩
abbrev S16384x5120 : Shape := ⟨2, ![16384, 5120]⟩
abbrev S1x1024 : Shape := ⟨2, ![1, 1024]⟩
abbrev S16384x4096 : Shape := ⟨2, ![16384, 4096]⟩
abbrev S1x1024x2048 : Shape := ⟨3, ![1, 1024, 2048]⟩
abbrev S1x2048x2048 : Shape := ⟨3, ![1, 2048, 2048]⟩
abbrev S16384x2048 : Shape := ⟨2, ![16384, 2048]⟩
abbrev S16384x8x128 : Shape := ⟨3, ![16384, 8, 128]⟩
abbrev S1024 : Shape := ⟨1, ![1024]⟩
abbrev S8x128 : Shape := ⟨2, ![8, 128]⟩
abbrev S_ : Shape := ⟨0, ![]⟩
abbrev S16384x8 : Shape := ⟨2, ![16384, 8]⟩
abbrev S16384x8x1 : Shape := ⟨3, ![16384, 8, 1]⟩
abbrev S1x8x128 : Shape := ⟨3, ![1, 8, 128]⟩
abbrev S1024x2048 : Shape := ⟨2, ![1024, 2048]⟩
abbrev S16384x2x2048 : Shape := ⟨3, ![16384, 2, 2048]⟩
abbrev S16384x1x2048 : Shape := ⟨3, ![16384, 1, 2048]⟩
abbrev S2048x2048 : Shape := ⟨2, ![2048, 2048]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5120, .f32⟩
  | .hbm, ⟨3, _⟩ => ⟨S1x1024, .f32⟩
  | .hbm, ⟨4, _⟩ => ⟨S16384x1024, .bf16⟩
  | .hbm, ⟨5, _⟩ => ⟨S16384x4096, .bf16⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S16384x2048, .f32⟩
  | .hbm, ⟨10, _⟩ => ⟨S16384x1024, .f32⟩
  | .hbm, ⟨11, _⟩ => ⟨S16384x1024, .f32⟩
  | .hbm, ⟨12, _⟩ => ⟨S16384x8x128, .f32⟩
  | .hbm, ⟨13, _⟩ => ⟨S1024, .f32⟩
  | .hbm, ⟨14, _⟩ => ⟨S8x128, .f32⟩
  | .hbm, ⟨15, _⟩ => ⟨S16384x8x128, .f32⟩
  | .hbm, ⟨16, _⟩ => ⟨S_, .f32⟩
  | .hbm, ⟨17, _⟩ => ⟨S16384x8, .f32⟩
  | .hbm, ⟨18, _⟩ => ⟨S16384x8x1, .f32⟩
  | .hbm, ⟨19, _⟩ => ⟨S_, .f32⟩
  | .hbm, ⟨20, _⟩ => ⟨S16384x8x1, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x1, .f32⟩
  | .hbm, ⟨26, _⟩ => ⟨S16384x8x128, .f32⟩
  | .hbm, ⟨27, _⟩ => ⟨S16384x8x128, .f32⟩
  | .hbm, ⟨28, _⟩ => ⟨S1x8x128, .f32⟩
  | .hbm, ⟨29, _⟩ => ⟨S16384x8x128, .f32⟩
  | .hbm, ⟨30, _⟩ => ⟨S16384x8x128, .f32⟩
  | .hbm, ⟨31, _⟩ => ⟨S16384x8x128, .f32⟩
  | .hbm, ⟨32, _⟩ => ⟨S16384x8x128, .f32⟩
  | .hbm, ⟨33, _⟩ => ⟨S16384x8x128, .f32⟩
  | .hbm, ⟨34, _⟩ => ⟨S_, .f32⟩
  | .hbm, ⟨35, _⟩ => ⟨S16384x8x128, .f32⟩
  | .hbm, ⟨36, _⟩ => ⟨S16384x8x128, .f32⟩
  | .hbm, ⟨37, _⟩ => ⟨S_, .f32⟩
  | .hbm, ⟨38, _⟩ => ⟨S16384x8x128, .f32⟩
  | .hbm, ⟨39, _⟩ => ⟨S16384x8x128, .f32⟩
  | .hbm, ⟨40, _⟩ => ⟨S16384x8x128, .f32⟩
  | .hbm, ⟨41, _⟩ => ⟨S16384x8x128, .f32⟩
  | .hbm, ⟨42, _⟩ => ⟨S16384x1024, .f32⟩
  | .hbm, ⟨43, _⟩ => ⟨S1024x2048, .f32⟩
  | .hbm, ⟨44, _⟩ => ⟨S16384x2048, .f32⟩
  | .hbm, ⟨45, _⟩ => ⟨S16384x1024, .f32⟩
  | .hbm, ⟨46, _⟩ => ⟨S1024x2048, .f32⟩
  | .hbm, ⟨47, _⟩ => ⟨S16384x2048, .f32⟩
  | .hbm, ⟨48, _⟩ => ⟨S16384x4096, .f32⟩
  | .hbm, ⟨49, _⟩ => ⟨S16384x2x2048, .f32⟩
  | .hbm, ⟨50, _⟩ => ⟨S16384x1x2048, .f32⟩
  | .hbm, ⟨51, _⟩ => ⟨S16384x2048, .f32⟩
  | .hbm, ⟨52, _⟩ => ⟨S16384x2048, .f32⟩
  | .hbm, ⟨53, _⟩ => ⟨S16384x1x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S2048x2048, .f32⟩
  | .hbm, ⟨58, _⟩ => ⟨S16384x2048, .f32⟩
  | .hbm, ⟨59, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S8x2x128x128 : Shape := ⟨4, ![8, 2, 128, 128]⟩
abbrev S2048x2048 : Shape := ⟨2, ![2048, 2048]⟩
abbrev S16x128x128 : Shape := ⟨3, ![16, 128, 128]⟩
abbrev S1x128x128 : Shape := ⟨3, ![1, 128, 128]⟩
abbrev S2048x128 : Shape := ⟨2, ![2048, 128]⟩
abbrev S128x2048 : Shape := ⟨2, ![128, 2048]⟩
abbrev S128x128 : Shape := ⟨2, ![128, 128]⟩
abbrev S2048 : Shape := ⟨1, ![2048]⟩
abbrev S2048x16384 : Shape := ⟨2, ![2048, 16384]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 12
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S1x8x2x128x128, .f32⟩
  | .hbm, ⟨4, _⟩ => ⟨S8x2x128x128, .f32⟩
  | .hbm, ⟨5, _⟩ => ⟨S2048x2048, .f32⟩
  | .hbm, ⟨6, _⟩ => ⟨S16x128x128, .f32⟩
  | .hbm, ⟨7, _⟩ => ⟨S2048x2048, .bf16⟩
  | .hbm, ⟨8, _⟩ => ⟨S2048, .f32⟩
  | .hbm, ⟨9, _⟩ => ⟨S1x2048, .f32⟩
  | .hbm, ⟨10, _⟩ => ⟨S2048x16384, .bf16⟩
  | .hbm, ⟨11, _⟩ => ⟨S2048x16384, .f32⟩
  | .local _ .vmem, ⟨0, _⟩ => ⟨S1x128x128, .f32⟩
  | .local _ .vmem, ⟨1, _⟩ => ⟨S1x128x128, .f32⟩
  | .local _ .vmem, ⟨2, _⟩ => ⟨S2048x128, .f32⟩
  | .local _ .vmem, ⟨3, _⟩ => ⟨S2048x128, .f32⟩
  | .local _ .vmem, ⟨4, _⟩ => ⟨S128x2048, .bf16⟩
  | .local _ .vmem, ⟨5, _⟩ => ⟨S128x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S2048x512, .bf16⟩
  | .local _ .vmem, ⟨10, _⟩ => ⟨S2048x512, .bf16⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .f32⟩
  | .local _ .vmem, ⟨16, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference4Ideal.lean ====
abbrev S16384x2048 : Shape := ⟨2, ![16384, 2048]⟩
abbrev S1x2048 : Shape := ⟨2, ![1, 2048]⟩
abbrev S1x2048x2048 : Shape := ⟨3, ![1, 2048, 2048]⟩
abbrev S1x8x2x128x128 : Shape := ⟨5, ![1, 8, 2, 128, 128]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x2048 : Shape := ⟨2, ![2048, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S2048x16384 : Shape := ⟨2, ![2048, 16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S1x8x2x128x128, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x2048, .f32⟩
  | .hbm, ⟨22, _⟩ => ⟨S16384x2048, .f32⟩
  | .hbm, ⟨23, _⟩ => ⟨S16384x8x2x128, .f32⟩
  | .hbm, ⟨24, _⟩ => ⟨S8x2x128x128, .f32⟩
  | .hbm, ⟨25, _⟩ => ⟨S8x2x128x16384, .f32⟩
  | .hbm, ⟨26, _⟩ => ⟨S16384x8x2x128, .f32⟩
  | .hbm, ⟨27, _⟩ => ⟨S16384x2048, .f32⟩
  | .hbm, ⟨28, _⟩ => ⟨S2048x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.BodyKernelIdeal.lean ====
/- The attention kernel's body run once, with what it leaves in its output block as an explicit function of its input
   blocks: two running softmaxes (one per half of the heads) over the key tiles, the tile on the diagonal last. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rectangles the body reads and writes -/

abbrev rR0 : Rect S2x1x1024 := Rect.unit (s := S2x1x1024) ![0, 0, 0] S1x1x1024.size inb_S2x1x1024_S1x1x1024_0_0_0
abbrev rR1 : Rect S2x1x1024 := Rect.unit (s := S2x1x1024) ![1, 0, 0] S1x1x1024.size inb_S2x1x1024_S1x1x1024_1_0_0
abbrev rA0 : Rect S2x128x1024 := Rect.unit (s := S2x128x1024) ![0, 0, 0] S1x128x1024.size inb_S2x128x1024_S1x128x1024_0_0_0
abbrev rA1 : Rect S2x128x1024 := Rect.unit (s := S2x128x1024) ![1, 0, 0] S1x128x1024.size inb_S2x128x1024_S1x128x1024_1_0_0
abbrev rQ00 : Rect S2x2x256x1024 := Rect.unit (s := S2x2x256x1024) ![0, 0, 0, 0] S1x1x256x1024.size inb_S2x2x256x1024_S1x1x256x1024_0_0_0_0
abbrev rQ01 : Rect S2x2x256x1024 := Rect.unit (s := S2x2x256x1024) ![0, 1, 0, 0] S1x1x256x1024.size inb_S2x2x256x1024_S1x1x256x1024_0_1_0_0
abbrev rQ10 : Rect S2x2x256x1024 := Rect.unit (s := S2x2x256x1024) ![1, 0, 0, 0] S1x1x256x1024.size inb_S2x2x256x1024_S1x1x256x1024_1_0_0_0
abbrev rQ11 : Rect S2x2x256x1024 := Rect.unit (s := S2x2x256x1024) ![1, 1, 0, 0] S1x1x256x1024.size inb_S2x2x256x1024_S1x1x256x1024_1_1_0_0
abbrev rH0 : Rect S2x2x256x1024 := Rect.unit (s := S2x2x256x1024) ![0, 0, 0, 0] S1x1x128x1024.size inb_S2x2x256x1024_S1x1x128x1024_0_0_0_0
abbrev rH1 : Rect S2x2x256x1024 := Rect.unit (s := S2x2x256x1024) ![1, 0, 0, 0] S1x1x128x1024.size inb_S2x2x256x1024_S1x1x128x1024_1_0_0_0
abbrev rK (i : grid2.Coords) (k : Fin k2_t1_loop.trips) : Rect S1x1x4096x256 := Rect.unit (s := S1x1x4096x256) (k2_off1 i k) S1x1x1024x256.size (k2_off1_inb i k)
abbrev rV (i : grid2.Coords) (k : Fin k2_t1_loop.trips) : Rect S1x128x4096 := Rect.unit (s := S1x128x4096) (k2_off2 i k) S1x128x1024.size (k2_off2_inb i k)
abbrev rQa (i : grid2.Coords) (k : Fin k2_t1_loop.trips) : Rect S2x2x256x1024 := Rect.unit (s := S2x2x256x1024) (k2_off3 i k) S1x1x256x1024.size (k2_off3_inb i k)
abbrev rQb (i : grid2.Coords) (k : Fin k2_t1_loop.trips) : Rect S2x2x256x1024 := Rect.unit (s := S2x2x256x1024) (k2_off4 i k) S1x1x256x1024.size (k2_off4_inb i k)
abbrev rKd (i : grid2.Coords) : Rect S1x1x4096x256 := Rect.unit (s := S1x1x4096x256) (k2_off5 i) S1x1x1024x128.size (k2_off5_inb i)
abbrev rVd (i : grid2.Coords) : Rect S1x128x4096 := Rect.unit (s := S1x128x4096) (k2_off6 i) S1x128x1024.size (k2_off6_inb i)

theorem hzz2 : (![0, 0] : Fin 2 → ℕ) = fun _ => 0 := funext fun a => by fin_cases a <;> rfl
theorem hzz3 : (![0, 0, 0] : Fin 3 → ℕ) = fun _ => 0 := funext fun a => by fin_cases a <;> rfl

/-- One store over a whole buffer leaves its value there. -/
theorem read_whole_store {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans (View.canon_unit_zero h inb w)

/-! ## A buffer of two rows -/

/-- The buffer whose row 0 is `a` and whose row 1 is `b`. -/
def two (a b : Vec F S1x1x1024 .f32) : Vec F S2x1x1024 .f32 := View.canon [⟨rR1, b⟩, ⟨rR0, a⟩]
def twoA (a b : Vec F S1x128x1024 .f32) : Vec F S2x128x1024 .f32 := View.canon [⟨rA1, b⟩, ⟨rA0, a⟩]

theorem cover_two (a b : Vec F S1x1x1024 .f32) (y : S2x1x1024.Idx) :
    ∃ pc ∈ ([⟨rR1, b⟩, ⟨rR0, a⟩] : List (View.Piece (Elt F) S2x1x1024 .f32)), y ∈ pc.1.set :=
  View.cover_of_tiledL (s := S2x1x1024) _ S1x1x1024.size (by sl_kernel_rfl) y
theorem cover_twoA (a b : Vec F S1x128x1024 .f32) (y : S2x128x1024.Idx) :
    ∃ pc ∈ ([⟨rA1, b⟩, ⟨rA0, a⟩] : List (View.Piece (Elt F) S2x128x1024 .f32)), y ∈ pc.1.set :=
  View.cover_of_tiledL (s := S2x128x1024) _ S1x128x1024.size (by sl_kernel_rfl) y

theorem ld_two1 (a b : Vec F S1x1x1024 .f32) : View.ld (two a b) rR1 = b :=
  funext fun x => View.canon_cons_emb (Val := Elt F) rR1 b [⟨rR0, a⟩] x
theorem ld_two0 (a b : Vec F S1x1x1024 .f32) : View.ld (two a b) rR0 = a := funext fun x => by
  refine (View.canon_cons_of_not_mem (Val := Elt F) ⟨rR1, b⟩ [⟨rR0, a⟩] (y := rR0.emb x) ?_).trans (View.canon_cons_emb (Val := Elt F) rR0 a [] x)
  rw [Rect.mem_set_unit]; intro h; have := (h 0).1; have hx : (x 0).val < 1 := (x 0).isLt
  have e : ((rR0.emb x) 0).val = 0 + (x 0).val := by show 0 + 1 * (x 0).val = _; omega
  rw [e] at this; change 1 ≤ _ at this; omega
theorem ld_twoA1 (a b : Vec F S1x128x1024 .f32) : View.ld (twoA a b) rA1 = b :=
  funext fun x => View.canon_cons_emb (Val := Elt F) rA1 b [⟨rA0, a⟩] x
theorem ld_twoA0 (a b : Vec F S1x128x1024 .f32) : View.ld (twoA a b) rA0 = a := funext fun x => by
  refine (View.canon_cons_of_not_mem (Val := Elt F) ⟨rA1, b⟩ [⟨rA0, a⟩] (y := rA0.emb x) ?_).trans (View.canon_cons_emb (Val := Elt F) rA0 a [] x)
  rw [Rect.mem_set_unit]; intro h; have := (h 0).1; have hx : (x 0).val < 1 := (x 0).isLt
  have e : ((rA0.emb x) 0).val = 0 + (x 0).val := by show 0 + 1 * (x 0).val = _; omega
  rw [e] at this; change 1 ≤ _ at this; omega

/-- A buffer is the two rows read from it. -/
theorem two_ld (X : Vec F S2x1x1024 .f32) : two (View.ld X rR0) (View.ld X rR1) = X := funext fun y => by
  obtain ⟨p, hp, hy⟩ := cover_two (View.ld X rR0) (View.ld X rR1) y
  by_cases h1 : y ∈ rR1.set
  · obtain ⟨x, rfl⟩ := rR1.exists_idx_of_mem h1
    exact congrFun (ld_two1 (View.ld X rR0) (View.ld X rR1)) x
  · have h0 : y ∈ rR0.set := by
      simp only [List.mem_cons, List.not_mem_nil, or_false] at hp
      rcases hp with rfl | rfl
      · exact absurd hy h1
      · exact hy
    obtain ⟨x, rfl⟩ := rR0.exists_idx_of_mem h0
    exact congrFun (ld_two0 (View.ld X rR0) (View.ld X rR1)) x
theorem twoA_ld (X : Vec F S2x128x1024 .f32) : twoA (View.ld X rA0) (View.ld X rA1) = X := funext fun y => by
  obtain ⟨p, hp, hy⟩ := cover_twoA (View.ld X rA0) (View.ld X rA1) y
  by_cases h1 : y ∈ rA1.set
  · obtain ⟨x, rfl⟩ := rA1.exists_idx_of_mem h1
    exact congrFun (ld_twoA1 (View.ld X rA0) (View.ld X rA1)) x
  · have h0 : y ∈ rA0.set := by
      simp only [List.mem_cons, List.not_mem_nil, or_false] at hp
      rcases hp with rfl | rfl
      · exact absurd hy h1
      · exact hy
    obtain ⟨x, rfl⟩ := rA0.exists_idx_of_mem h0
    exact congrFun (ld_twoA0 (View.ld X rA0) (View.ld X rA1)) x

/-! ## What the body computes -/

/-- The running maximum, the running denominator and the running numerator of both halves. -/
structure Rows (F : FTy → Type) [FloatOps F] where
  m0 : Vec F S1x1x1024 .f32
  l0 : Vec F S1x1x1024 .f32
  a0 : Vec F S1x128x1024 .f32
  m1 : Vec F S1x1x1024 .f32
  l1 : Vec F S1x1x1024 .f32
  a1 : Vec F S1x128x1024 .f32

/-- One tile's scores `s0`, `s1` and values `v` taken into the running softmaxes. -/
def upd (v : FVec F S128x1024 .bf16) (s0 s1 : FVec F S1024x1024 .f32) (R : Rows F) : Rows F where
  m0 := k2_pay46 s0 R.m0
  l0 := k2_pay44 s0 R.m0 R.l0
  a0 := k2_pay45 v s0 R.m0 R.a0
  m1 := k2_pay46 s1 R.m1
  l1 := k2_pay44 s1 R.m1 R.l1
  a1 := k2_pay45 v s1 R.m1 R.a1

/-- The four augmented query tiles the body keeps: half by side. -/
def qaug (i : grid2.Coords) (x0 : Vec F S1x128x1024 .bf16) : Vec F S2x2x256x1024 .bf16 :=
  View.canon [⟨rQ11, k2_pay28 (k2_pay20 x0) (iota .tc S128x1024 32 [0] iota_S128x1024_d0_w32) (k2_pay21 i)⟩,
    ⟨rQ10, k2_pay27 (k2_pay20 x0) (iota .tc S128x1024 32 [0] iota_S128x1024_d0_w32) (k2_pay21 i)⟩,
    ⟨rQ01, k2_pay25 (k2_pay21 i) (k2_pay22 x0)⟩, ⟨rQ00, k2_pay24 (k2_pay23 i x0)⟩]

/-- The empty running softmaxes. -/
def rows0 : Rows F where
  m0 := View.ld (k2_pay30 k2_pay29) rR0
  l0 := View.ld k2_pay31 rR0
  a0 := View.ld k2_pay32 rA0
  m1 := View.ld (k2_pay30 k2_pay29) rR1
  l1 := View.ld k2_pay31 rR1
  a1 := View.ld k2_pay32 rA1

/-- Trip `k` of the loop over the tiles off the diagonal. -/
def stepR (i : grid2.Coords) (x1 : Vec F S1x1x4096x256 .bf16) (x2 : Vec F S1x128x4096 .bf16) (q9 : Vec F S2x2x256x1024 .bf16)
    (k : Fin k2_t1_loop.trips) (R : Rows F) : Rows F :=
  upd (k2_pay3 (View.ld x2 (rV i k))) (k2_pay4 (View.ld x1 (rK i k)) (View.ld q9 (rQa i k)))
    (k2_pay5 (View.ld x1 (rK i k)) (View.ld q9 (rQb i k))) R

/-- The running softmaxes before trip `k`. -/
def rowsAt (i : grid2.Coords) (x1 : Vec F S1x1x4096x256 .bf16) (x2 : Vec F S1x128x4096 .bf16) (q9 : Vec F S2x2x256x1024 .bf16) : ℕ → Rows F
  | 0 => rows0
  | k + 1 => if h : k < k2_t1_loop.trips then stepR i x1 x2 q9 ⟨k, h⟩ (rowsAt i x1 x2 q9 k) else rowsAt i x1 x2 q9 k

theorem rowsAt_zero (i : grid2.Coords) (x1 : Vec F S1x1x4096x256 .bf16) (x2 : Vec F S1x128x4096 .bf16) (q9 : Vec F S2x2x256x1024 .bf16) :
    rowsAt i x1 x2 q9 0 = rows0 := rfl
theorem rowsAt_succ (i : grid2.Coords) (x1 : Vec F S1x1x4096x256 .bf16) (x2 : Vec F S1x128x4096 .bf16) (q9 : Vec F S2x2x256x1024 .bf16)
    (k : Fin k2_t1_loop.trips) : rowsAt i x1 x2 q9 (k.val + 1) = stepR i x1 x2 q9 k (rowsAt i x1 x2 q9 k.val) :=
  dif_pos k.isLt

/-- The running softmaxes at the end: every tile taken in. -/
def rowsEnd (i : grid2.Coords) (x1 : Vec F S1x1x4096x256 .bf16) (x2 : Vec F S1x128x4096 .bf16) (q9 : Vec F S2x2x256x1024 .bf16) : Rows F :=
  upd (k2_pay37 (View.ld x2 (rVd i))) (k2_pay39 (k2_pay19 i) (View.ld x1 (rKd i)) (View.ld q9 rH0))
    (k2_pay47 (k2_pay36 (View.ld x1 (rKd i))) (k2_pay38 (k2_pay19 i)) (View.ld q9 rH1))
    (rowsAt i x1 x2 q9 k2_t1_loop.trips)

/-- The output block: the two softmaxes' quotients combined, normalised and scaled. -/
def attnOut (i : grid2.Coords) (x0 : Vec F S1x128x1024 .bf16) (x1 : Vec F S1x1x4096x256 .bf16) (x2 : Vec F S1x128x4096 .bf16)
    (x3 : Vec F S4x64 .f32) (x4 : Vec F S1x128 .f32) : Vec F S1024x128 .bf16 :=
  let R := rowsEnd i x1 x2 (qaug i x0)
  k2_pay1 (k2_pay55 x3 R.a0 R.l0 R.a1 R.l1) (k2_pay56 x3 R.a0 R.l0 R.a1 R.l1) x4

/-! ## One trip -/

set_option maxHeartbeats 1000000 in
/-- One trip of the loop takes one tile into the running softmaxes. -/
theorem trip_run (c : Dev nD) (i : grid2.Coords) (arg3 : Memref sig .tc .vmem S1x128x1024 .bf16) (harg3 : arg3.IsWhole) (arg4 : Memref sig .tc .vmem S1x1x4096x256 .bf16) (harg4 : arg4.IsWhole) (arg5 : Memref sig .tc .vmem S1x128x4096 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1024x128 .bf16) (harg8 : arg8.IsWhole) (arg9 : Memref sig .tc .vmem S2x2x256x1024 .bf16) (harg9 : arg9.IsWhole) (arg10 : Memref sig .tc .vmem S2x1x1024 .f32) (harg10 : arg10.IsWhole) (arg11 : Memref sig .tc .vmem S2x1x1024 .f32) (harg11 : arg11.IsWhole) (arg12 : Memref sig .tc .vmem S2x128x1024 .f32) (harg12 : arg12.IsWhole) (arg2 : BitVec 32) (v3 : F .f32) (v69 : FVec F S2x1x1024 .f32) (v70 : Vec F S2x1x1024 .f32)
    (x1 : Vec F S1x1x4096x256 .bf16) (x2 : Vec F S1x128x4096 .bf16) (q9 : Vec F S2x2x256x1024 .bf16) (R : Rows F) (k : Fin k2_t1_loop.trips) (E : Set ℕ) :
    iprop(owns (c : Thread nD τ) arg4 fullShare x1 ∗ owns (c : Thread nD τ) arg5 fullShare x2 ∗ owns (c : Thread nD τ) arg9 fullShare q9 ∗ owns (c : Thread nD τ) arg10 fullShare (two R.m0 R.m1) ∗ owns (c : Thread nD τ) arg11 fullShare (two R.l0 R.l1) ∗ owns (c : Thread nD τ) arg12 fullShare (twoA R.a0 R.a1))
    ⊢ wp frame (wpE (defs₀ (F := F)) Variants.none (c : Thread nD τ) none) E (k2_t1_body (F := F) i arg3 harg3 arg4 harg4 arg5 harg5 arg6 harg6 arg7 harg7 arg8 harg8 arg9 harg9 arg10 harg10 arg11 harg11 arg12 harg12 arg2 v3 v69 v70 k PUnit.unit)
      (fun _ => (iprop(owns (c : Thread nD τ) arg4 fullShare x1 ∗ owns (c : Thread nD τ) arg5 fullShare x2 ∗ owns (c : Thread nD τ) arg9 fullShare q9 ∗ owns (c : Thread nD τ) arg10 fullShare (two (stepR i x1 x2 q9 k R).m0 (stepR i x1 x2 q9 k R).m1) ∗ owns (c : Thread nD τ) arg11 fullShare (two (stepR i x1 x2 q9 k R).l0 (stepR i x1 x2 q9 k R).l1) ∗ owns (c : Thread nD τ) arg12 fullShare (twoA (stepR i x1 x2 q9 k R).a0 (stepR i x1 x2 q9 k R).a1)) : sProp 𝕄)) := by
  have hk : k.val < 3 := Nat.lt_of_lt_of_le k.isLt k2_t1_abs.2.1
  unfold k2_t1_body
  unfold owns
  iintro ⟨⟨%f1, %hf1, H1⟩, ⟨%f2, %hf2, H2⟩, ⟨%f9, %hf9, H9⟩, ⟨%f10, %hf10, H10⟩, ⟨%f11, %hf11, H11⟩, ⟨%f12, %hf12, H12⟩⟩
  sl_exec
  sl_step
  have e1 : ∀ r : Rect S1x1x4096x256, arg4.view.readAt (Elt F) r.toLoadRect f1 = View.ld x1 r := fun r => by rw [← hf1]; rfl
  have e2 : ∀ r : Rect S1x128x4096, arg5.view.readAt (Elt F) r.toLoadRect f2 = View.ld x2 r := fun r => by rw [← hf2]; rfl
  have e9 : ∀ r : Rect S2x2x256x1024, arg9.view.readAt (Elt F) r.toLoadRect f9 = View.ld q9 r := fun r => by rw [← hf9]; rfl
  have e10 : arg10.view.readAt (Elt F) rR0.toLoadRect f10 = R.m0 := by rw [← ld_two0 R.m0 R.m1, ← hf10]; rfl
  have e10' : arg10.view.readAt (Elt F) rR1.toLoadRect f10 = R.m1 := by rw [← ld_two1 R.m0 R.m1, ← hf10]; rfl
  have e11 : arg11.view.readAt (Elt F) rR0.toLoadRect f11 = R.l0 := by rw [← ld_two0 R.l0 R.l1, ← hf11]; rfl
  have e11' : arg11.view.readAt (Elt F) rR1.toLoadRect f11 = R.l1 := by rw [← ld_two1 R.l0 R.l1, ← hf11]; rfl
  have e12 : arg12.view.readAt (Elt F) rA0.toLoadRect f12 = R.a0 := by rw [← ld_twoA0 R.a0 R.a1, ← hf12]; rfl
  have e12' : arg12.view.readAt (Elt F) rA1.toLoadRect f12 = R.a1 := by rw [← ld_twoA1 R.a0 R.a1, ← hf12]; rfl
  isplitl [H1]
  · iexists _; isplitr; swap; · iexact H1
    ipureintro; exact hf1
  isplitl [H2]
  · iexists _; isplitr; swap; · iexact H2
    ipureintro; exact hf2
  isplitl [H9]
  · iexists _; isplitr; swap; · iexact H9
    ipureintro; exact hf9
  isplitl [H10]
  · iexists _; isplitr; swap; · iexact H10
    ipureintro
    refine (View.read_writes_eq_canon _ _ _ (cover_two _ _)).trans ?_
    show two _ _ = _
    sl_unfold_words
    rw [e10, e10', e1, e9, e9]; rfl
  isplitl [H11]
  · iexists _; isplitr; swap; · iexact H11
    ipureintro
    refine (View.read_writes_eq_canon _ _ _ (cover_two _ _)).trans ?_
    show two _ _ = _
    sl_unfold_words
    rw [e10, e10', e11, e11', e1, e9, e9]; rfl
  · iexists _; isplitr; swap; · iexact H12
    ipureintro
    refine (View.read_writes_eq_canon _ _ _ (cover_twoA _ _)).trans ?_
    show twoA _ _ = _
    sl_unfold_words
    rw [e10, e10', e12, e12', e1, e2, e9, e9]; rfl

/-! ## The whole body -/

/-- Row 0 read back after both rows were stored. -/
theorem cov_two0 {κ : Kind} {sp : Space} (v : View sig κ sp S2x1x1024 .f32) (a b : Vec F S1x1x1024 .f32) :
    v.readCov (Val := Elt F) [⟨rR1, b⟩, ⟨rR0, a⟩] rR0.toLoadRect = a :=
  (View.readCov_eq_canon v _ _ fun j => cover_two _ _ _).trans (ld_two0 a b)

/-- Row 1 read back after both rows were stored. -/
theorem cov_two1 {κ : Kind} {sp : Space} (v : View sig κ sp S2x1x1024 .f32) (a b : Vec F S1x1x1024 .f32) :
    v.readCov (Val := Elt F) [⟨rR1, b⟩, ⟨rR0, a⟩] rR1.toLoadRect = b :=
  (View.readCov_eq_canon v _ _ fun j => cover_two _ _ _).trans (ld_two1 a b)

/-- Row 0 read back after both rows were stored. -/
theorem cov_twoA0 {κ : Kind} {sp : Space} (v : View sig κ sp S2x128x1024 .f32) (a b : Vec F S1x128x1024 .f32) :
    v.readCov (Val := Elt F) [⟨rA1, b⟩, ⟨rA0, a⟩] rA0.toLoadRect = a :=
  (View.readCov_eq_canon v _ _ fun j => cover_twoA _ _ _).trans (ld_twoA0 a b)

/-- Row 1 read back after both rows were stored. -/
theorem cov_twoA1 {κ : Kind} {sp : Space} (v : View sig κ sp S2x128x1024 .f32) (a b : Vec F S1x128x1024 .f32) :
    v.readCov (Val := Elt F) [⟨rA1, b⟩, ⟨rA0, a⟩] rA1.toLoadRect = b :=
  (View.readCov_eq_canon v _ _ fun j => cover_twoA _ _ _).trans (ld_twoA1 a b)

theorem cover_q (p0 p1 p2 p3 : Vec F S1x1x256x1024 .bf16) (y : S2x2x256x1024.Idx) :
    ∃ pc ∈ ([⟨rQ11, p3⟩, ⟨rQ10, p2⟩, ⟨rQ01, p1⟩, ⟨rQ00, p0⟩] : List (View.Piece (Elt F) S2x2x256x1024 .bf16)), y ∈ pc.1.set :=
  View.cover_of_tiledL (s := S2x2x256x1024) _ S1x1x256x1024.size (by sl_kernel_rfl) y

set_option maxHeartbeats 1000000 in
/-- The body leaves its input blocks as they were and its output block at `attnOut` of them. -/
theorem body_run (c : Dev nD) (i : grid2.Coords) (arg3 : Memref sig .tc .vmem S1x128x1024 .bf16) (harg3 : arg3.IsWhole) (arg4 : Memref sig .tc .vmem S1x1x4096x256 .bf16) (harg4 : arg4.IsWhole) (arg5 : Memref sig .tc .vmem S1x128x4096 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1024x128 .bf16) (harg8 : arg8.IsWhole) (arg9 : Memref sig .tc .vmem S2x2x256x1024 .bf16) (harg9 : arg9.IsWhole) (arg10 : Memref sig .tc .vmem S2x1x1024 .f32) (harg10 : arg10.IsWhole) (arg11 : Memref sig .tc .vmem S2x1x1024 .f32) (harg11 : arg11.IsWhole) (arg12 : Memref sig .tc .vmem S2x128x1024 .f32) (harg12 : arg12.IsWhole)
    (x0 : Vec F S1x128x1024 .bf16) (x1 : Vec F S1x1x4096x256 .bf16) (x2 : Vec F S1x128x4096 .bf16) (x3 : Vec F S4x64 .f32) (x4 : Vec F S1x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (attnOut i x0 x1 x2 x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc2_diff_attention i arg3 harg3 arg4 harg4 arg5 harg5 arg6 harg6 arg7 harg7 arg8 harg8 arg9 harg9 arg10 harg10 arg11 harg11 arg12 harg12) K := by
  simp only [cc2_diff_attention_eq_skeleton]; unfold cc2_diff_attention_skel
  simp only [k2_part3_eq_skeleton, k2_part4_eq_skeleton, k2_part5_eq_skeleton, k2_part6_eq_skeleton, k2_part7_eq_skeleton, k2_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, ⟨%d11, %f11, -, H11⟩, ⟨%d12, %f12, -, H12⟩, Hk⟩
  have e0 : arg3.view.readAt (Elt F) (Rect.unit (s := S1x128x1024) ![0, 0, 0] S1x128x1024.size inb_S1x128x1024_S1x128x1024_0_0_0).toLoadRect f0 = x0 :=
    (show _ = View.ld (arg3.view.read (Elt F) f0) _ from rfl).trans (by rw [hf0]; exact View.ld_unit_zero hzz3 _ _)
  have e3 : arg6.view.readAt (Elt F) (Rect.unit (s := S4x64) ![0, 0] S4x64.size inb_S4x64_S4x64_0_0).toLoadRect f3 = x3 :=
    (show _ = View.ld (arg6.view.read (Elt F) f3) _ from rfl).trans (by rw [hf3]; exact View.ld_unit_zero hzz2 _ _)
  have e4 : arg7.view.readAt (Elt F) (Rect.unit (s := S1x128) ![0, 0] S1x128.size inb_S1x128_S1x128_0_0).toLoadRect f4 = x4 :=
    (show _ = View.ld (arg7.view.read (Elt F) f4) _ from rfl).trans (by rw [hf4]; exact View.ld_unit_zero hzz2 _ _)
  have e1 : ∀ r : Rect S1x1x4096x256, arg4.view.readAt (Elt F) r.toLoadRect f1 = View.ld x1 r := fun r => by rw [← hf1]; rfl
  have e2 : ∀ r : Rect S1x128x4096, arg5.view.readAt (Elt F) r.toLoadRect f2 = View.ld x2 r := fun r => by rw [← hf2]; rfl
  sl_exec
  sl_for (fun k (_ : PUnit) => (iprop(owns (c : Thread nD τ) arg4 fullShare x1 ∗ owns (c : Thread nD τ) arg5 fullShare x2 ∗ owns (c : Thread nD τ) arg9 fullShare (qaug i x0) ∗ owns (c : Thread nD τ) arg10 fullShare (two (rowsAt i x1 x2 (qaug i x0) k).m0 (rowsAt i x1 x2 (qaug i x0) k).m1) ∗ owns (c : Thread nD τ) arg11 fullShare (two (rowsAt i x1 x2 (qaug i x0) k).l0 (rowsAt i x1 x2 (qaug i x0) k).l1) ∗ owns (c : Thread nD τ) arg12 fullShare (twoA (rowsAt i x1 x2 (qaug i x0) k).a0 (rowsAt i x1 x2 (qaug i x0) k).a1)) : sProp 𝕄)) $$ [H1 H2 H9 H10 H11 H12]
  case region =>
    intro k acc
    rw [rowsAt_succ]
    exact trip_run c i arg3 harg3 arg4 harg4 arg5 harg5 arg6 harg6 arg7 harg7 arg8 harg8 arg9 harg9 arg10 harg10 arg11 harg11 arg12 harg12 _ _ _ _ x1 x2 (qaug i x0) (rowsAt i x1 x2 (qaug i x0) k.val) k E
  · unfold owns
    isplitl [H1]
    · iexists _; isplitr; swap; · iexact H1
      ipureintro; exact hf1
    isplitl [H2]
    · iexists _; isplitr; swap; · iexact H2
      ipureintro; exact hf2
    isplitl [H9]
    · iexists _; isplitr; swap; · iexact H9
      ipureintro
      refine (View.read_writes_eq_canon _ _ _ (cover_q _ _ _ _)).trans ?_
      sl_unfold_words
      rfl
    isplitl [H10]
    · iexists _; isplitr; swap; · iexact H10
      ipureintro
      rw [rowsAt_zero]; unfold rows0; dsimp only; rw [two_ld]
      sl_unfold_words
      exact read_whole_store _ _ hzz3 _ _
    isplitl [H11]
    · iexists _; isplitr; swap; · iexact H11
      ipureintro
      rw [rowsAt_zero]; unfold rows0; dsimp only; rw [two_ld]
      sl_unfold_words
      exact read_whole_store _ _ hzz3 _ _
    · iexists _; isplitr; swap; · iexact H12
      ipureintro
      rw [rowsAt_zero]; unfold rows0; dsimp only; rw [twoA_ld]
      sl_unfold_words
      exact read_whole_store _ _ hzz3 _ _
  clear e1 e2
  unfold owns
  iintro %acc ⟨⟨%g1, %hg1, H1⟩, ⟨%g2, %hg2, H2⟩, ⟨%g9, %hg9, H9⟩, ⟨%g10, %hg10, H10⟩, ⟨%g11, %hg11, H11⟩, ⟨%g12, %hg12, H12⟩⟩
  sl_exec
  sl_step
  iapply Hk
  generalize hR : rowsAt i x1 x2 (qaug i x0) (Scf.trips k2_t1_loop.lb k2_t1_loop.ub k2_t1_loop.st) = R at hg10 hg11 hg12
  have e1 : ∀ r : Rect S1x1x4096x256, arg4.view.readAt (Elt F) r.toLoadRect g1 = View.ld x1 r := fun r => by rw [← hg1]; rfl
  have e2 : ∀ r : Rect S1x128x4096, arg5.view.readAt (Elt F) r.toLoadRect g2 = View.ld x2 r := fun r => by rw [← hg2]; rfl
  have e9 : ∀ r : Rect S2x2x256x1024, arg9.view.readAt (Elt F) r.toLoadRect g9 = View.ld (qaug i x0) r := fun r => by rw [← hg9]; rfl
  have e10 : arg10.view.readAt (Elt F) rR0.toLoadRect g10 = R.m0 := by rw [← ld_two0 R.m0 R.m1, ← hg10]; rfl
  have e10' : arg10.view.readAt (Elt F) rR1.toLoadRect g10 = R.m1 := by rw [← ld_two1 R.m0 R.m1, ← hg10]; rfl
  have e11 : arg11.view.readAt (Elt F) rR0.toLoadRect g11 = R.l0 := by rw [← ld_two0 R.l0 R.l1, ← hg11]; rfl
  have e11' : arg11.view.readAt (Elt F) rR1.toLoadRect g11 = R.l1 := by rw [← ld_two1 R.l0 R.l1, ← hg11]; rfl
  have e12 : arg12.view.readAt (Elt F) rA0.toLoadRect g12 = R.a0 := by rw [← ld_twoA0 R.a0 R.a1, ← hg12]; rfl
  have e12' : arg12.view.readAt (Elt F) rA1.toLoadRect g12 = R.a1 := by rw [← ld_twoA1 R.a0 R.a1, ← hg12]; rfl
  isplitl [H0]
  · iexists _; isplitr; swap; · iexact H0
    ipureintro; exact hf0
  isplitl [H1]
  · iexists _; isplitr; swap; · iexact H1
    ipureintro; exact hg1
  isplitl [H2]
  · iexists _; isplitr; swap; · iexact H2
    ipureintro; exact hg2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    refine (read_whole_store _ _ hzz2 _ _).trans ?_
    have hE : rowsEnd i x1 x2 (qaug i x0) = upd (k2_pay37 (View.ld x2 (rVd i))) (k2_pay39 (k2_pay19 i) (View.ld x1 (rKd i)) (View.ld (qaug i x0) rH0))
        (k2_pay47 (k2_pay36 (View.ld x1 (rKd i))) (k2_pay38 (k2_pay19 i)) (View.ld (qaug i x0) rH1)) R := by rw [← hR]; rfl
    unfold attnOut
    rw [hE]
    sl_unfold_words
    rw [e10, e10', e11, e11', e12, e12', e1, e2, e9, e9]
    rw [cov_two0, cov_two1, cov_twoA0, cov_twoA1]
    rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  · iexists _, _; isplitr; swap; · iexact H12
    ipureintro; rfl

end Cert.KernelIdeal.Gen
end
-- ==== Proof.FrameKernelIdeal.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.BodyKernelIdeal
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_inproj_qv_t` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x2048 := Rect.unit (s := S1024x2048) ![0, 0] S1024x2048.size inb_S1024x2048_S1024x2048_0_0
abbrev r0_1 : Rect S1x1024x1024 := Rect.unit (s := S1x1024x1024) ![0, 0, 0] S1x1024x1024.size inb_S1x1024x1024_S1x1024x1024_0_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S1024x2048 .bf16) (x1 : Vec F S1024x2048 .bf16) : Vec F S1x1024x1024 .bf16 :=
  View.canon [⟨r0_1, k0_pay1 (View.ld x0 r0_0) (View.ld x1 r0_0)⟩]

/-- Its stores tile the buffer (checked by evaluation), so they cover it. -/
theorem cover0_2 (p0 : Vec F S1x1024x1024 .bf16) (y : S1x1024x1024.Idx) :
    ∃ pc ∈ ([⟨r0_1, p0⟩] : List (View.Piece (Elt F) S1x1024x1024 .bf16)), y ∈ pc.1.set :=
  View.cover_of_tiled [⟨r0_1, p0⟩] S1x1024x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024x1024 .bf16) (harg5 : arg5.IsWhole)
    (x0 : Vec F S1024x2048 .bf16) (x1 : Vec F S1024x2048 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out0_2 x0 x1)) -∗ K ⟨⟩))
      ⊢ wp frame (wpE (defs₀ (F := F)) Variants.none c none) E (cc0_inproj_qv_t i arg3 harg3 arg4 harg4 arg5 harg5) K := by
  simp only [cc0_inproj_qv_t_eq_skeleton]; unfold cc0_inproj_qv_t_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_kaug` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x2048 := Rect.unit (s := S1024x2048) ![0, 0] S1024x2048.size inb_S1024x2048_S1024x2048_0_0
abbrev r1_1 : Rect S2048x256 := Rect.unit (s := S2048x256) ![0, 0] S2048x256.size inb_S2048x256_S2048x256_0_0
abbrev r1_2 : Rect S1x2x1024x256 := Rect.unit (s := S1x2x1024x256) ![0, 0, 0, 0] S1x1x1024x256.size inb_S1x2x1024x256_S1x1x1024x256_0_0_0_0
abbrev r1_3 : Rect S1x2x1024x256 := Rect.unit (s := S1x2x1024x256) ![0, 1, 0, 0] S1x1x1024x256.size inb_S1x2x1024x256_S1x1x1024x256_0_1_0_0

/-! ## What the body leaves in each output window's buffer -/

/-! ### Values of the body that the stores' payloads, spelt out, would write more than once

    Each is a vector the body binds (often a part call's result), stated over the input windows' blocks and
    numbered on from the skeleton's payload functions (`k1_pay17` …, after `k1_pay16`), so that
    `out1_W` and the values after it name it instead of spelling it out (`unfold_out out1_W` opens a canon
    with them, `unfold_payloads` opens them with the payloads); the comment after each is the printed function's
    name for the value (a count appended where that name is bound again). -/

def k1_pay17 (i : grid1.Coords) (x0 : Vec F S1024x2048 .bf16) (x1 : Vec F S2048x256 .bf16) : FVec F S1024x256 .f32 :=
  k1_pay2 (View.ld x0 r1_0) (View.ld x1 r1_1) -- `v3`

/-- Window 2's staging buffer after the body, from the input windows' blocks: its 2 stores as pieces, LAST
    FIRST (Lib/Pipeline/FrameBody.lean `View.canon`; the payloads are the skeleton's and the values stated above). -/
def out1_2 (i : grid1.Coords) (x0 : Vec F S1024x2048 .bf16) (x1 : Vec F S2048x256 .bf16) : Vec F S1x2x1024x256 .bf16 :=
  View.canon [⟨r1_3, k1_pay1 (k1_pay16 (BitVec.ofNat 32 (i 2).val) (k1_pay17 i x0 x1) (iota .tc S1024x128 32 [1] iota_S1024x128_d1_w32) (k1_pay4 (F := F) i) (k1_pay5 (F := F) i))⟩,
    ⟨r1_2, k1_pay15 (k1_pay17 i x0 x1) k1_pay7 (k1_pay8 (F := F) i) k1_pay9 (k1_pay10 (F := F) i) k1_pay11 (k1_pay12 (F := F) i) k1_pay13 (Scalar.ofBits .f32 0x00000000#32) (k1_pay14 (F := F) i)⟩]

/-- Its stores tile the buffer (checked by evaluation), so they cover it. -/
theorem cover1_2 (p0 : Vec F S1x1x1024x256 .bf16) (p1 : Vec F S1x1x1024x256 .bf16) (y : S1x2x1024x256.Idx) :
    ∃ pc ∈ ([⟨r1_3, p0⟩, ⟨r1_2, p1⟩] : List (View.Piece (Elt F) S1x2x1024x256 .bf16)), y ∈ pc.1.set :=
  View.cover_of_tiled [⟨r1_3, p0⟩, ⟨r1_2, p1⟩] S1x1x1024x256.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg3 : Memref sig .tc .vmem S1024x2048 .bf16) (harg3 : arg3.IsWhole) (arg4 : Memref sig .tc .vmem S2048x256 .bf16) (harg4 : arg4.IsWhole) (arg5 : Memref sig .tc .vmem S1x2x1024x256 .bf16) (harg5 : arg5.IsWhole)
    (x0 : Vec F S1024x2048 .bf16) (x1 : Vec F S2048x256 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 i x0 x1)) -∗ K ⟨⟩))
      ⊢ wp frame (wpE (defs₀ (F := F)) Variants.none c none) E (cc1_kaug i arg3 harg3 arg4 harg4 arg5 harg5) K := by
  simp only [cc1_kaug_eq_skeleton]; unfold cc1_kaug_skel
  simp only [k1_part1_eq_skeleton, k1_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _ _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (grid1.coords t) (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_diff_attention` (pipeline 2), at the entry contents `V` — class R -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 5, through which its contents are stated (`View.read_writes_of_cover`: the
    choice does not matter). -/
abbrev VO2_5 : View sig .tc .vmem S1024x128 .bf16 := (Memref.whole cc2_stg5_0 : Memref sig .tc .vmem S1024x128 .bf16).view
/-- Each window's current staging memref at point `t`, spelled as the pipeline passes it (`bodyAt2`), and its wholeness. -/
abbrev ms2_0 (t : Fin cfg2.N) : Memref sig .tc .vmem S1x128x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x4096x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x128 .bf16 := win2_5.stage (cfg2.slots t 5)
abbrev hs2_5 (t : Fin cfg2.N) : (ms2_5 t).IsWhole := hstage2_5 ((cfg2.slots t 5).cast nbuf2_5)
/-- The scratch operands: whole scoped buffers of the kernel's own, passed beside the windows. -/
abbrev scM2_0 : Memref sig .tc .vmem S2x2x256x1024 .bf16 := Memref.whole cc2_scratch0
abbrev scM2_1 : Memref sig .tc .vmem S2x1x1024 .f32 := Memref.whole cc2_scratch1
abbrev scM2_2 : Memref sig .tc .vmem S2x1x1024 .f32 := Memref.whole cc2_scratch2
abbrev scM2_3 : Memref sig .tc .vmem S2x128x1024 .f32 := Memref.whole cc2_scratch3

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ (∃ r, prngReg c r)) := by
  unfold Pipeline.ΦA; rw [scopedRest2_eq]; simp only [scM2_0, scM2_1, scM2_2, scM2_3, owns_whole]; try rfl

/-! ## What the outputs hold after each point -/

/-- What the outputs' staging buffers hold after the body at point `t`: the run's contents at
    the point's memrefs and input blocks. -/
def outsAt2 (c : Dev nD) (t : Fin cfg2.N) : Vec F S1024x128 .bf16 :=
  attnOut (grid2.coords t) (iblk2 V c 0 t) (iblk2 V c 1 t) (iblk2 V c 2 t) (iblk2 V c 3 t) (iblk2 V c 4 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; each input's share of its array
    (`Pipeline.shareOf`: the full share of an array several windows stage, dealt among them). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t)
  Φ _ := Pipeline.ΦA spec2 c
  q w := Pipeline.shareOf spec2 w
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 800000 in
/-- The body at any point: the inputs' memrefs hold their blocks (`before2_W`); so the
    run applies; the invariant hands the body its scratch buffers at some contents (and the generator register) and takes them back at some contents (`PhiA_eq`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  rw [show (dat2 V c).Φ t.castSucc = Pipeline.ΦA spec2 c from rfl, PhiA2_eq]
  unfold outsAt2
  iintro ⟨⟨⟨HR0, HR1, HR2, HR3, HR4, HR5, HR6, HR7, HR8, HR9, HR10, HR11, HS0, HS1, HS2, HS3⟩, Hg⟩, Ho, ⟨%d0, H0⟩, ⟨%d1, H1⟩, ⟨%d2, H2⟩, ⟨%d3, H3⟩, ⟨%d4, H4⟩, ⟨%d5, H5⟩⟩
  iapply (body_run c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) scM2_3 (Memref.isWhole_whole _) (iblk2 V c 0 t) (iblk2 V c 1 t) (iblk2 V c 2 t) (iblk2 V c 3 t) (iblk2 V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HR0 HR1 HR2 HR3 HR4 HR5 HR6 HR7 HR8 HR9 HR10 HR11 HS0 HS1 HS2 HS3 Hg]
  · isplitl [HR0 HR1 HR2 HR3 HR4 HR5 HR6 HR7 HR8 HR9 HR10 HR11 HS0 HS1 HS2 HS3]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v10, main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact (dat2 (V4 m ρ) c).withArrays_arrAt launch₀2.sharedIn _ (A_eq2 (V4 m ρ) c) w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays_shared`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the launch reads at the end). Its arrays split out of the unscoped buffers
    (`arrays_of_unscopedBufs_shared`) and put back at the exit contents (`unscopedBufs_of_arrays_shared`; its input windows on one array (`launch₀2.sharedIn`) each dealt their share of it, `Pipeline.shareOf`, by the proof data); the generator register into the
    class invariant `ΦA` and out; nothing owed; no semaphore of the kernel's own. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W5_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.KernelIdeal.Gen

end
-- ==== Proof.Math.lean ====
module

public import Idealize.ShloMosaic.Lib.Pointwise
public import Idealize.ShloMosaic.PureOps.Ideal.Laws

@[expose] public section

/-! The arithmetic of the tile-by-tile softmax, with no program in sight. -/

namespace Cert.Math
open Idealize.ShloMosaic Finset

variable {J E : ℕ}

/-- A finite sum of reals, taken among the extended reals, is the real sum. -/
theorem coe_sum {ι : Type*} (S : Finset ι) (f : ι → ℝ) : ∑ i ∈ S, ((f i : ℝ) : EReal) = ((∑ i ∈ S, f i : ℝ) : EReal) := by
  classical
  induction S using Finset.induction_on with
  | empty => simp
  | insert a s ha ih => rw [Finset.sum_insert ha, Finset.sum_insert ha, ih, EReal.coe_add]

/-- The maximum of reals over a nonempty set, started from anything but `⊤`, is a real. -/
theorem fold_max_real {ι : Type*} (S : Finset ι) (hS : S.Nonempty) (b : EReal) (hb : b ≠ ⊤) (f : ι → EReal)
    (hf : ∀ i, ∃ r : ℝ, f i = (r : EReal)) : ∃ r : ℝ, S.fold max b f = (r : EReal) := by
  classical
  have h1 : S.fold max b f ≠ ⊤ := by
    have : S.fold max b f < ⊤ := by
      rw [Finset.fold_max_lt]
      exact ⟨lt_top_iff_ne_top.2 hb, fun i _ => by obtain ⟨r, hr⟩ := hf i; rw [hr]; exact EReal.coe_lt_top r⟩
    exact this.ne
  have h2 : S.fold max b f ≠ ⊥ := by
    obtain ⟨i, hi⟩ := hS
    have : (⊥ : EReal) < S.fold max b f := by
      rw [Finset.lt_fold_max]
      exact Or.inr ⟨i, hi, by obtain ⟨r, hr⟩ := hf i; rw [hr]; exact EReal.bot_lt_coe r⟩
    exact this.ne'
  exact ⟨_, (EReal.coe_toReal h1 h2).symm⟩

/-- What is kept for one query column after the tiles `T`: a real maximum, the sum of the exponentials against it,
    and the values weighted by them. -/
def Inv (T : Finset (Fin 4)) (s : Fin 4 → Fin J → ℝ) (v : Fin E → Fin 4 → Fin J → ℝ) (M L : EReal) (A : Fin E → EReal) : Prop :=
  ∃ m : ℝ, M = (m : EReal) ∧ L = ((∑ τ ∈ T, ∑ j, Real.exp (s τ j - m) : ℝ) : EReal) ∧
    ∀ e, A e = ((∑ τ ∈ T, ∑ j, Real.exp (s τ j - m) * v e τ j : ℝ) : EReal)

/-- Before any tile. -/
theorem Inv.init (s : Fin 4 → Fin J → ℝ) (v : Fin E → Fin 4 → Fin J → ℝ) (M L : EReal) (A : Fin E → EReal)
    (hM : ∃ m : ℝ, M = (m : EReal)) (hL : L = 0) (hA : ∀ e, A e = 0) : Inv ∅ s v M L A := by
  obtain ⟨m, hm⟩ := hM
  exact ⟨m, hm, by simp [hL], fun e => by simp [hA e]⟩

/-- One more tile. -/
theorem Inv.step {T : Finset (Fin 4)} {s : Fin 4 → Fin J → ℝ} {v : Fin E → Fin 4 → Fin J → ℝ} {M L : EReal} {A : Fin E → EReal}
    (h : Inv T s v M L A) (τ : Fin 4) (hτ : τ ∉ T) (hJ : 0 < J) (b : EReal) (hb : b ≠ ⊤) (sc : Fin J → EReal) (hsc : ∀ j, sc j = (s τ j : EReal))
    (M' L' : EReal) (A' : Fin E → EReal)
    (hM' : M' = max M (univ.fold max b sc))
    (hL' : L' = Ideal.exp (M - M') * L + ∑ j, Ideal.exp (sc j - M'))
    (hA' : ∀ e, A' e = Ideal.exp (M - M') * A e + ∑ j, (v e τ j : EReal) * Ideal.exp (sc j - M')) :
    Inv (insert τ T) s v M' L' A' := by
  obtain ⟨m, hm, hL, hA⟩ := h
  obtain ⟨t, ht⟩ := fold_max_real (univ : Finset (Fin J)) ⟨⟨0, hJ⟩, mem_univ _⟩ b hb sc (fun j => ⟨_, hsc j⟩)
  have hMm : M' = ((max m t : ℝ) : EReal) := by rw [hM', hm, ht]; exact (EReal.coe_strictMono.monotone.map_max).symm
  have hx : ∀ a c : ℝ, Ideal.exp ((a : EReal) - (c : EReal)) = (Real.exp (a - c) : EReal) := fun a c => by
    rw [← EReal.coe_sub]; rfl
  have key : ∀ a, Real.exp (m - max m t) * Real.exp (a - m) = Real.exp (a - max m t) := fun a => by
    rw [← Real.exp_add]; congr 1; ring
  refine ⟨max m t, hMm, ?_, fun e => ?_⟩
  · rw [hL', hMm, hm, hx, hL]
    simp only [hsc, hx]
    rw [coe_sum, ← EReal.coe_mul, ← EReal.coe_add]
    rw [Finset.sum_insert hτ, add_comm, Finset.mul_sum]
    simp only [Finset.mul_sum, key]
  · rw [hA' e, hMm, hm, hx, hA e]
    simp only [hsc, hx, ← EReal.coe_mul]
    rw [coe_sum, ← EReal.coe_add]
    rw [Finset.sum_insert hτ, add_comm, Finset.mul_sum]
    simp only [Finset.mul_sum, ← mul_assoc, key, mul_comm (v e τ _)]

/-- The softmax of the scores `s`, summed against the values. -/
noncomputable def smx (s : Fin 4 → Fin J → ℝ) (v : Fin 4 → Fin J → ℝ) : ℝ :=
  (∑ τ, ∑ j, Real.exp (s τ j) * v τ j) / ∑ τ, ∑ j, Real.exp (s τ j)

theorem sum_exp_pos (hJ : 0 < J) (s : Fin 4 → Fin J → ℝ) (m : ℝ) : 0 < ∑ τ, ∑ j, Real.exp (s τ j - m) :=
  Finset.sum_pos (fun _ _ => Finset.sum_pos (fun _ _ => Real.exp_pos _) ⟨⟨0, hJ⟩, mem_univ _⟩) ⟨0, mem_univ _⟩

/-- The softmax does not see a shift of all scores. -/
theorem smx_shift (s v : Fin 4 → Fin J → ℝ) (m : ℝ) :
    (∑ τ, ∑ j, Real.exp (s τ j - m) * v τ j) / (∑ τ, ∑ j, Real.exp (s τ j - m)) = smx s v := by
  have h : ∀ a, Real.exp (a - m) = Real.exp (-m) * Real.exp a := fun a => by rw [← Real.exp_add]; congr 1; ring
  unfold smx
  simp only [h, mul_assoc, ← Finset.mul_sum]
  exact mul_div_mul_left _ _ (Real.exp_pos _).ne'

/-- After all tiles the quotient is the softmax. -/
theorem Inv.quot {s : Fin 4 → Fin J → ℝ} {v : Fin E → Fin 4 → Fin J → ℝ} {M L : EReal} {A : Fin E → EReal} (hJ : 0 < J)
    (h : Inv univ s v M L A) (e : Fin E) : Ideal.div (A e) L = (smx s (v e) : EReal) := by
  obtain ⟨m, _, hL, hA⟩ := h
  rw [hL, hA e, Ideal.div_coe (sum_exp_pos hJ s m).ne', ← EReal.coe_mul, mul_one_div, smx_shift]

/-- A sum over all keys, tile by tile. -/
theorem sum_tiles {α : Type*} [AddCommMonoid α] (f : Fin 4096 → α) :
    ∑ j, f j = ∑ τ : Fin 4, ∑ j : Fin 1024, f ⟨1024 * τ.val + j.val, by omega⟩ := by
  rw [← Fintype.sum_prod_type' (f := fun (τ : Fin 4) (j : Fin 1024) => f ⟨1024 * τ.val + j.val, by omega⟩)]
  refine (Fintype.sum_equiv (finProdFinEquiv (m := 4) (n := 1024)) _ _ fun p => ?_).symm
  congr 1
  exact Fin.ext (by simp [finProdFinEquiv]; omega)

/-- The difference of two softmaxes, the way the plain formula takes it: the weights of both halves first,
    their difference, then the sum against the values. -/
theorem plain {s0 s1 : Fin 4096 → EReal} {v : Fin 4096 → EReal} (t0 t1 w : Fin 4096 → ℝ) (h0 : ∀ j, s0 j = (t0 j : EReal)) (h1 : ∀ j, s1 j = (t1 j : EReal))
    (hv : ∀ j, v j = (w j : EReal)) (m0 m1 : EReal) (lam : ℝ) (hm0 : ∃ r : ℝ, m0 = (r : EReal)) (hm1 : ∃ r : ℝ, m1 = (r : EReal)) :
    ∑ j, v j * (Ideal.div (Ideal.exp (s0 j - m0)) (∑ k, Ideal.exp (s0 k - m0))
        - (lam : EReal) * Ideal.div (Ideal.exp (s1 j - m1)) (∑ k, Ideal.exp (s1 k - m1)))
      = ((smx (fun τ (j : Fin 1024) => t0 ⟨1024 * τ.val + j.val, by omega⟩) (fun τ j => w ⟨1024 * τ.val + j.val, by omega⟩)
          - lam * smx (fun τ (j : Fin 1024) => t1 ⟨1024 * τ.val + j.val, by omega⟩) (fun τ j => w ⟨1024 * τ.val + j.val, by omega⟩) : ℝ) : EReal) := by
  obtain ⟨r0, rfl⟩ := hm0
  obtain ⟨r1, rfl⟩ := hm1
  have hx : ∀ a c : ℝ, Ideal.exp ((a : EReal) - (c : EReal)) = (Real.exp (a - c) : EReal) := fun a c => by
    rw [← EReal.coe_sub]; rfl
  have hp : ∀ (t : Fin 4096 → ℝ) (r : ℝ), (∑ k, Real.exp (t k - r)) ≠ 0 := fun t r =>
    (Finset.sum_pos (fun _ _ => Real.exp_pos _) ⟨(0 : Fin 4096), mem_univ _⟩).ne'
  simp only [h0, h1, hv, hx, coe_sum]
  simp only [Ideal.div_coe (hp _ _), ← EReal.coe_mul, ← EReal.coe_sub, coe_sum]
  rw [EReal.coe_eq_coe_iff, ← smx_shift _ _ r0, ← smx_shift _ _ r1]
  rw [sum_tiles (fun k => Real.exp (t0 k - r0)), sum_tiles (fun k => Real.exp (t1 k - r1)),
    ← sum_tiles (fun k => Real.exp (t0 k - r0) * w k), ← sum_tiles (fun k => Real.exp (t1 k - r1) * w k)]
  generalize (∑ τ : Fin 4, ∑ j : Fin 1024, Real.exp (t0 ⟨1024 * τ.val + j.val, by omega⟩ - r0)) = Z0
  generalize (∑ τ : Fin 4, ∑ j : Fin 1024, Real.exp (t1 ⟨1024 * τ.val + j.val, by omega⟩ - r1)) = Z1
  simp only [Finset.sum_div, Finset.mul_sum]
  rw [← Finset.sum_sub_distrib]
  exact Finset.sum_congr rfl fun j _ => by ring

/-! ## The distance term -/

/-- The slope of head `h` (counted from 0). -/
noncomputable def slope (h : ℕ) : ℝ := Real.rpow 2 (-((h : ℝ) + 1))

/-- Lane `l` of key `j`'s row beside its projection, for head `h`. -/
noncomputable def augR (h j l : ℕ) : ℝ :=
  if l = 0 then slope h * 64 * ((j / 64 : ℕ) : ℝ) else if l = 1 then slope h * ((j % 64 : ℕ) : ℝ) else if l = 2 then -64 * slope h
  else if l = 3 then -slope h else 0

/-- Lane `l` of query `i`'s column. -/
noncomputable def qlane (i l : ℕ) : ℝ :=
  if l < 2 then 1 else if l = 2 then ((i / 64 : ℕ) : ℝ) else if l = 3 then ((i % 64 : ℕ) : ℝ) else 0

/-- The lanes' product is the slope times the signed distance. -/
theorem lanes (h j i : ℕ) : ∑ l : Fin 128, augR h j l.val * qlane i l.val = slope h * ((j : ℝ) - (i : ℝ)) := by
  have e : ∀ n : ℕ, (n : ℝ) = 64 * ((n / 64 : ℕ) : ℝ) + ((n % 64 : ℕ) : ℝ) := fun n => by exact_mod_cast (Nat.div_add_mod n 64).symm
  rw [Fin.sum_univ_add (a := 4) (b := 124) (fun l : Fin (4 + 124) => augR h j l.val * qlane i l.val)]
  rw [Finset.sum_eq_zero (s := (univ : Finset (Fin 124))) (fun l _ => by
    have : (Fin.natAdd 4 l).val = 4 + l.val := rfl
    rw [this]; unfold augR; rw [if_neg (by omega), if_neg (by omega), if_neg (by omega), if_neg (by omega), zero_mul])]
  rw [Fin.sum_univ_four]
  simp only [Fin.val_castAdd, augR, qlane]
  rw [e j, e i]
  simp
  ring

/-- Half `c` of a query column, scaled, the other half zero. -/
noncomputable def qhalf (c : ℕ) (Q : Fin 128 → ℝ) (d : Fin 128) : ℝ := if 64 * c ≤ d.val ∧ d.val < 64 * c + 64 then Q d * (1 / 8) else 0

/-- The product with a masked column only sees the half it keeps. -/
theorem half_sum (c : Fin 2) (K Q : Fin 128 → ℝ) :
    ∑ d : Fin 128, K d * qhalf c.val Q d
      = (∑ d : Fin 64, Q ⟨64 * c.val + d.val, by omega⟩ * K ⟨64 * c.val + d.val, by omega⟩) * (1 / 8) := by
  rw [Fin.sum_univ_add (a := 64) (b := 64) (fun d : Fin (64 + 64) => K d * qhalf c.val Q d), Finset.sum_mul]
  match c with
  | ⟨0, _⟩ =>
    rw [Finset.sum_eq_zero (f := fun i : Fin 64 => K (Fin.natAdd 64 i) * _) (fun l _ => by
      unfold qhalf; rw [if_neg (by simp), mul_zero]), add_zero]
    refine Finset.sum_congr rfl fun d _ => ?_
    unfold qhalf
    rw [if_pos (by simp)]
    have : (Fin.castAdd 64 d : Fin 128) = ⟨64 * 0 + d.val, by omega⟩ := Fin.ext (by simp)
    rw [this]; ring
  | ⟨1, _⟩ =>
    rw [Finset.sum_eq_zero (f := fun i : Fin 64 => K (Fin.castAdd 64 i) * _) (fun l _ => by
      unfold qhalf; rw [if_neg (by simp), mul_zero]), zero_add]
    refine Finset.sum_congr rfl fun d _ => ?_
    unfold qhalf
    rw [if_pos (by simp; omega)]
    have : (Fin.natAdd 64 d : Fin 128) = ⟨64 * 1 + d.val, by omega⟩ := Fin.ext (by simp; omega)
    rw [this]; ring

/-- The score of query `i` and key `j` in half `c` of head `h`: the scaled product less the slope times the distance. -/
noncomputable def score (h : ℕ) (c : Fin 2) (Q K : Fin 128 → ℝ) (i j : ℕ) : ℝ :=
  (∑ d : Fin 64, Q ⟨64 * c.val + d.val, by omega⟩ * K ⟨64 * c.val + d.val, by omega⟩) * (1 / 8) - slope h * |(i : ℝ) - (j : ℝ)|

/-- A key before the query: the lanes added. -/
theorem score_before (h : ℕ) (c : Fin 2) (Q K : Fin 128 → ℝ) (i j : ℕ) (hij : j ≤ i) :
    ∑ d : Fin 128, K d * qhalf c.val Q d + ∑ l : Fin 128, augR h j l.val * qlane i l.val = score h c Q K i j := by
  rw [lanes, half_sum, score, abs_of_nonneg (by have : (j : ℝ) ≤ i := by exact_mod_cast hij
                                                linarith)]
  ring

/-- A key after the query: the lanes subtracted. -/
theorem score_after (h : ℕ) (c : Fin 2) (Q K : Fin 128 → ℝ) (i j : ℕ) (hij : i ≤ j) :
    ∑ d : Fin 128, K d * qhalf c.val Q d + ∑ l : Fin 128, augR h j l.val * -qlane i l.val = score h c Q K i j := by
  simp only [mul_neg, Finset.sum_neg_distrib]
  rw [lanes, half_sum, score, abs_of_nonpos (by have : (i : ℝ) ≤ j := by exact_mod_cast hij
                                                linarith)]
  ring

/-- A tile on the diagonal: both positions counted from the tile's start. -/
theorem score_diag (h : ℕ) (c : Fin 2) (Q K : Fin 128 → ℝ) (o i j : ℕ) :
    ∑ d : Fin 128, K d * qhalf c.val Q d + (0 - slope h) * |(i : ℝ) - (j : ℝ)| = score h c Q K (o + i) (o + j) := by
  rw [half_sum, score]
  push_cast
  rw [show ((o : ℝ) + i - (o + j)) = (i : ℝ) - j by ring]
  ring

/-! ## Words read as reals -/

/-- A small word's distance to another. -/
theorem dist_word (q k : ℕ) (hq : q < 4096) (hk : k < 4096) :
    (((IntOp.absi (IntOp.subi (BitVec.ofNat 32 q) (BitVec.ofNat 32 k))).toInt : ℝ) : EReal) = ((|(q : ℝ) - (k : ℝ)| : ℝ) : EReal) := by
  have e : (IntOp.absi (IntOp.subi (BitVec.ofNat 32 q) (BitVec.ofNat 32 k))).toInt = |(q : ℤ) - (k : ℤ)| := by
    have hs : (BitVec.ofNat 32 q - BitVec.ofNat 32 k).toInt = (q : ℤ) - k := by
      rw [BitVec.toInt_sub, BitVec.toInt_ofNat', BitVec.toInt_ofNat']
      simp [Int.bmod]; omega
    unfold IntOp.absi IntOp.subi
    rw [BitVec.msb_eq_toInt, hs]
    by_cases hlt : (q : ℤ) - k < 0
    · rw [if_pos (by simpa using hlt), abs_of_neg hlt, BitVec.toInt_neg, hs]
      simp [Int.bmod]; omega
    · rw [if_neg (by simpa using hlt), abs_of_nonneg (by omega), hs]
  rw [e]; push_cast; rfl

/-- The word of a position: tile times the tile's length, plus the place in the tile. -/
theorem pos_word (a r : ℕ) (ha : a < 4) (hr : r < 1024) :
    IntOp.addi (Scalar.muli (BitVec.ofNat 32 a) 1024#32) (BitVec.ofNat 32 r) = BitVec.ofNat 32 (1024 * a + r) := by
  show BitVec.ofNat 32 a * 1024#32 + BitVec.ofNat 32 r = _
  rw [← BitVec.ofNat_mul, ← BitVec.ofNat_add, Nat.mul_comm]

theorem hi_word_all : ∀ n : Fin 4096, (IntOp.shrsi ArithUnit.vector (BitVec.ofNat 32 n.val) 6#32).toInt = ((n.val / 64 : ℕ) : ℤ) := by decide +kernel
theorem lo_word_all : ∀ n : Fin 4096, (IntOp.andi (BitVec.ofNat 32 n.val) 63#32).toInt = ((n.val % 64 : ℕ) : ℤ) := by decide +kernel

/-- The high part of a position. -/
theorem hi_word (a r : ℕ) (ha : a < 4) (hr : r < 1024) :
    (((IntOp.shrsi ArithUnit.vector (IntOp.addi (Scalar.muli (BitVec.ofNat 32 a) 1024#32) (BitVec.ofNat 32 r)) 6#32).toInt : ℝ) : EReal)
      = ((((1024 * a + r) / 64 : ℕ) : ℝ) : EReal) := by
  rw [pos_word a r ha hr, hi_word_all ⟨1024 * a + r, by omega⟩]; rfl

/-- The low part of a position. -/
theorem lo_word (a r : ℕ) (ha : a < 4) (hr : r < 1024) :
    (((IntOp.andi (IntOp.addi (Scalar.muli (BitVec.ofNat 32 a) 1024#32) (BitVec.ofNat 32 r)) 63#32).toInt : ℝ) : EReal)
      = ((((1024 * a + r) % 64 : ℕ) : ℝ) : EReal) := by
  rw [pos_word a r ha hr, lo_word_all ⟨1024 * a + r, by omega⟩]; rfl

theorem cons_eighth : Ideal.ofBits .f32 0x3E000000#32 = (((1 / 8 : ℝ)) : EReal) := by
  simp [Ideal.ofBits, Ideal.ieee, -EReal.coe_mul]; norm_num
theorem cons_64 : Ideal.ofBits .f32 0x42800000#32 = ((64 : ℝ) : EReal) := by
  simp [Ideal.ofBits, Ideal.ieee, -EReal.coe_mul]; norm_num
theorem cons_neg64 : Ideal.ofBits .f32 0xC2800000#32 = ((-64 : ℝ) : EReal) := by
  simp [Ideal.ofBits, Ideal.ieee, -EReal.coe_mul]; norm_num
theorem cons_two : Ideal.ofBits .f32 0x40000000#32 = ((2 : ℝ) : EReal) := by
  simp [Ideal.ofBits, Ideal.ieee, -EReal.coe_mul]; norm_num
theorem cons_eight : Ideal.ofBits .f32 0x41000000#32 = ((8 : ℝ) : EReal) := by
  simp [Ideal.ofBits, Ideal.ieee, -EReal.coe_mul]; norm_num
theorem cons_neg8 : Ideal.ofBits .f32 0xC1000000#32 = ((-8 : ℝ) : EReal) := by
  simp [Ideal.ofBits, Ideal.ieee, -EReal.coe_mul]; norm_num
theorem cons_ninf : Ideal.ofBits .f32 0xFF800000#32 = ⊥ := by
  simp [Ideal.ofBits, Ideal.ieee]
/-- The start of the running maxima is a real. -/
theorem cons_start : ∃ r : ℝ, Ideal.ofBits .f32 0xF149F2CA#32 = (r : EReal) := by
  simp [Ideal.ofBits, Ideal.ieee, -EReal.coe_mul]
  exact ⟨_, (EReal.coe_neg _).symm⟩
/-- So is the constant of the weight of the second half. -/
theorem cons_lam : ∃ r : ℝ, Ideal.ofBits .f32 0x3E4CCCCD#32 = (r : EReal) := by
  simp [Ideal.ofBits, Ideal.ieee, -EReal.coe_mul]

/-- The kernel's slope. -/
theorem slope_exp2 (h : ℕ) (hh : h < 8) : Ideal.exp2 (0 - ((((BitVec.ofNat 32 h + 1#32).toInt : ℝ)) : EReal)) = (slope h : EReal) := by
  have e : (BitVec.ofNat 32 h + 1#32).toInt = (h : ℤ) + 1 := by
    have : ∀ n : Fin 8, (BitVec.ofNat 32 n.val + 1#32).toInt = (n.val : ℤ) + 1 := by decide
    exact this ⟨h, hh⟩
  rw [e, show (0 : EReal) = ((0 : ℝ) : EReal) from rfl, ← EReal.coe_sub]
  show ((Real.rpow 2 _ : ℝ) : EReal) = _
  unfold slope
  congr 2; push_cast; ring

/-- The reference's slope. -/
theorem slope_pow (h : ℕ) (hh : h < 8) :
    Ideal.pow (Ideal.ofBits .f32 0x40000000#32) (Ideal.div (Ideal.ofBits .f32 0xC1000000#32 * (1 + ((((BitVec.ofNat 32 h).toInt : ℝ)) : EReal)))
      (Ideal.ofBits .f32 0x41000000#32)) = (slope h : EReal) := by
  have e : (BitVec.ofNat 32 h).toInt = (h : ℤ) := by
    have : ∀ n : Fin 8, (BitVec.ofNat 32 n.val).toInt = (n.val : ℤ) := by decide
    exact this ⟨h, hh⟩
  rw [e, cons_two, cons_eight, cons_neg8, show (1 : EReal) = ((1 : ℝ) : EReal) from rfl, ← EReal.coe_add, ← EReal.coe_mul,
    Ideal.div_coe (by norm_num), ← EReal.coe_mul, Ideal.pow_coe_coe]
  unfold slope
  congr 2; push_cast; ring

end Cert.Math
-- ==== Proof.Pay.lean ====
module

public import proofs.«01_k».proof.Proof.FrameKernelIdeal
public import proofs.«01_k».proof.Proof.Math
public import Idealize.ShloMosaic.Lib.Pointwise
public import Idealize.ShloMosaic.Lib.WordArith

@[expose] public section

set_option maxRecDepth 16384

namespace Cert.KernelIdeal.Gen
open Idealize.ShloMosaic Cert.KernelIdeal Cert.Math

/-! The stored values of the three kernels, entry by entry. -/

theorem pay4_apply (a : Vec Ideal S1x1x1024x256 .bf16) (b : Vec Ideal S1x1x256x1024 .bf16) (j r : Fin 1024) :
    k2_pay4 a b (ix2 j r) = ∑ c : Fin 256, a (ix4 0 0 j c) * b (ix4 0 0 c r) := by
  pointwise [k2_pay4, k2_pay2]

theorem pay5_apply (a : Vec Ideal S1x1x1024x256 .bf16) (b : Vec Ideal S1x1x256x1024 .bf16) (j r : Fin 1024) :
    k2_pay5 a b (ix2 j r) = ∑ c : Fin 256, a (ix4 0 0 j c) * b (ix4 0 0 c r) := by
  pointwise [k2_pay5, k2_pay2]

theorem pay38_apply (s : Ideal .f32) (j r : Fin 1024) :
    k2_pay38 s (ix2 j r) = (0 - s) * ((((IntOp.absi (IntOp.subi (BitVec.ofNat 32 r.val) (BitVec.ofNat 32 j.val))).toInt : ℝ)) : EReal) := by
  pointwise [k2_pay38]
  rfl

theorem pay39_apply (s : Ideal .f32) (a : Vec Ideal S1x1x1024x128 .bf16) (b : Vec Ideal S1x1x128x1024 .bf16) (j r : Fin 1024) :
    k2_pay39 s a b (ix2 j r) = (∑ c : Fin 128, a (ix4 0 0 j c) * b (ix4 0 0 c r)) + k2_pay38 s (ix2 j r) := by
  pointwise [k2_pay39, k2_pay36]

theorem pay47_apply (a : Vec Ideal S1x1x1024x128 .bf16) (t : FVec Ideal S1024x1024 .f32) (b : Vec Ideal S1x1x128x1024 .bf16) (j r : Fin 1024) :
    k2_pay47 (k2_pay36 a) t b (ix2 j r) = (∑ c : Fin 128, a (ix4 0 0 j c) * b (ix4 0 0 c r)) + t (ix2 j r) := by
  pointwise [k2_pay47, k2_pay36]

theorem pay3_apply (a : Vec Ideal S1x128x1024 .bf16) (e : Fin 128) (r : Fin 1024) : k2_pay3 a (ix2 e r) = a (ix3 0 e r) := by
  pointwise [k2_pay3]
theorem pay37_apply (a : Vec Ideal S1x128x1024 .bf16) (e : Fin 128) (r : Fin 1024) : k2_pay37 a (ix2 e r) = a (ix3 0 e r) := by
  pointwise [k2_pay37]

theorem pay55_apply (x3 : Vec Ideal S4x64 .f32) (a0 : Vec Ideal S1x128x1024 .f32) (l0 : Vec Ideal S1x1x1024 .f32) (a1 : Vec Ideal S1x128x1024 .f32) (l1 : Vec Ideal S1x1x1024 .f32) (e : Fin 128) (r : Fin 1024) :
    k2_pay55 x3 a0 l0 a1 l1 (ix2 e r) = Ideal.div (a0 (ix3 0 e r)) (l0 (ix3 0 0 r))
      - (Ideal.exp (∑ d : Fin 64, x3 (ix2 0 d) * x3 (ix2 1 d)) - Ideal.exp (∑ d : Fin 64, x3 (ix2 2 d) * x3 (ix2 3 d)) + Ideal.ofBits .f32 0x3E4CCCCD#32)
        * Ideal.div (a1 (ix3 0 e r)) (l1 (ix3 0 0 r)) := by
  pointwise [k2_pay55]
theorem pay56_apply (x3 : Vec Ideal S4x64 .f32) (a0 : Vec Ideal S1x128x1024 .f32) (l0 : Vec Ideal S1x1x1024 .f32) (a1 : Vec Ideal S1x128x1024 .f32) (l1 : Vec Ideal S1x1x1024 .f32) (r : Fin 1024) :
    k2_pay56 x3 a0 l0 a1 l1 (ix2 0 r) = Ideal.rsqrt (Ideal.div (∑ e : Fin 128, k2_pay55 x3 a0 l0 a1 l1 (ix2 e r) * k2_pay55 x3 a0 l0 a1 l1 (ix2 e r))
      (Ideal.ofBits .f32 0x43000000#32) + Ideal.ofBits .f32 0x358637BD#32) := by
  pointwise [k2_pay56]
theorem pay1_apply (o : FVec Ideal S128x1024 .f32) (n : FVec Ideal S1x1024 .f32) (g : Vec Ideal S1x128 .f32) (r : Fin 1024) (e : Fin 128) :
    k2_pay1 o n g (ix2 r e) = o (ix2 e r) * n (ix2 0 r) * g (ix2 0 e) * Ideal.ofBits .f32 0x3F4CCCCD#32 := by
  pointwise [k2_pay1]

theorem k0_pay1_apply (w x : Vec Ideal S1024x2048 .bf16) (r t : Fin 1024) :
    k0_pay1 w x (ix3 0 r t) = ∑ k : Fin 2048, w (ix2 r k) * x (ix2 t k) := by
  pointwise [k0_pay1]
theorem k1_pay2_apply (x : Vec Ideal S1024x2048 .bf16) (w : Vec Ideal S2048x256 .bf16) (r : Fin 1024) (c : Fin 256) :
    k1_pay2 x w (ix2 r c) = ∑ k : Fin 2048, x (ix2 r k) * w (ix2 k c) := by
  pointwise [k1_pay2]

/-! ## One tile taken into a running softmax -/

theorem upd_m (s : FVec Ideal S1024x1024 .f32) (m : Vec Ideal S1x1x1024 .f32) (r : Fin 1024) :
    k2_pay46 s m (ix3 0 0 r) = max (m (ix3 0 0 r)) (Finset.univ.fold max (Ideal.ofBits .f32 0xFF800000#32) fun j : Fin 1024 => s (ix2 j r)) := by
  pointwise [k2_pay46, k2_pay41, k2_pay40]
theorem upd_l (s : FVec Ideal S1024x1024 .f32) (m l : Vec Ideal S1x1x1024 .f32) (r : Fin 1024) :
    k2_pay44 s m l (ix3 0 0 r) = Ideal.exp (m (ix3 0 0 r) - k2_pay46 s m (ix3 0 0 r)) * l (ix3 0 0 r)
      + ∑ j : Fin 1024, Ideal.exp (s (ix2 j r) - k2_pay46 s m (ix3 0 0 r)) := by
  rw [upd_m]
  pointwise [k2_pay44, k2_pay42, k2_pay43, k2_pay41, k2_pay40]
theorem upd_a (v : FVec Ideal S128x1024 .bf16) (s : FVec Ideal S1024x1024 .f32) (m : Vec Ideal S1x1x1024 .f32) (a : Vec Ideal S1x128x1024 .f32) (e : Fin 128) (r : Fin 1024) :
    k2_pay45 v s m a (ix3 0 e r) = Ideal.exp (m (ix3 0 0 r) - k2_pay46 s m (ix3 0 0 r)) * a (ix3 0 e r)
      + ∑ j : Fin 1024, v (ix2 e j) * Ideal.exp (s (ix2 j r) - k2_pay46 s m (ix3 0 0 r)) := by
  rw [upd_m]
  pointwise [k2_pay45, k2_pay42, k2_pay43, k2_pay41, k2_pay40]

/-! ## The query columns -/

theorem pay19_apply (i : grid2.Coords) : k2_pay19 (F := Ideal) i = (slope (i 1).val : EReal) := by
  rw [← slope_exp2 (i 1).val (i 1).isLt]
  pointwise [k2_pay19]
  rfl

theorem pay20_apply (x0 : Vec Ideal S1x128x1024 .bf16) (c : Fin 128) (r : Fin 1024) : k2_pay20 x0 (ix2 c r) = x0 (ix3 0 c r) * Ideal.ofBits .f32 0x3E000000#32 := by
  pointwise [k2_pay20]

/-- A select on a conjunction of two comparisons of small words. -/
theorem select_between (c a b : ℕ) (hc : c < 256) (ha : a < 256) (hb : b < 256) (x y : EReal) :
    Scalar.select (IntOp.andi (IntOp.cmpi .sge (BitVec.ofNat 32 c) (BitVec.ofNat 32 a)) (IntOp.cmpi .slt (BitVec.ofNat 32 c) (BitVec.ofNat 32 b))) x y
      = if a ≤ c ∧ c < b then x else y := by
  rw [WordCmp.cmpi_sge_ofNat (by omega) (by omega), WordCmp.cmpi_slt_ofNat (by omega) (by omega), Idealize.ShloMosaic.WordArith.andi_ofBool, WordCmp.select_ofBool]
  simp
theorem select_slt (c b : ℕ) (hc : c < 256) (hb : b < 256) (x y : EReal) :
    Scalar.select (IntOp.cmpi .slt (BitVec.ofNat 32 c) (BitVec.ofNat 32 b)) x y = if c < b then x else y := by
  rw [WordCmp.cmpi_slt_ofNat (by omega) (by omega), WordCmp.select_ofBool]; simp
theorem select_eq (c b : ℕ) (hc : c < 256) (hb : b < 256) (x y : EReal) :
    Scalar.select (IntOp.cmpi .eq (BitVec.ofNat 32 c) (BitVec.ofNat 32 b)) x y = if c = b then x else y := by
  rw [WordCmp.cmpi_eq_ofNat (by omega) (by omega), WordCmp.select_ofBool]; simp

theorem pay22_apply (x0 : Vec Ideal S1x128x1024 .bf16) (Q : Fin 128 → ℝ) (r : Fin 1024) (hQ : ∀ c, x0 (ix3 0 c r) = (Q c : EReal)) (c : Fin 128) :
    k2_pay22 x0 (ix2 c r) = (qhalf 0 Q c : EReal) := by
  pointwise [k2_pay22]
  rw [select_between c.val 0 64 (by omega) (by omega) (by omega), pay20_apply, hQ, cons_eighth, ← EReal.coe_mul]
  unfold qhalf
  split <;> rename_i h <;> simp [h]
theorem pay26_apply (x0 : Vec Ideal S1x128x1024 .bf16) (Q : Fin 128 → ℝ) (r : Fin 1024) (hQ : ∀ c, x0 (ix3 0 c r) = (Q c : EReal)) (c : Fin 128) :
    k2_pay26 (k2_pay20 x0) (iota .tc S128x1024 32 [0] iota_S128x1024_d0_w32) (ix2 c r) = (qhalf 1 Q c : EReal) := by
  pointwise [k2_pay26]
  rw [select_between c.val 64 128 (by omega) (by omega) (by omega), pay20_apply, hQ, cons_eighth, ← EReal.coe_mul]
  unfold qhalf
  split <;> rename_i h <;> simp [h]

theorem pay21_apply (i : grid2.Coords) (c : Fin 128) (r : Fin 1024) :
    k2_pay21 (F := Ideal) i (ix2 c r) = (qlane (1024 * (i 2).val + r.val) c.val : EReal) := by
  have h1 := hi_word (i 2).val r.val (i 2).isLt r.isLt
  have h2 := lo_word (i 2).val r.val (i 2).isLt r.isLt
  pointwise [k2_pay21]
  rw [select_slt c.val 2 (by omega) (by omega), select_eq c.val 2 (by omega) (by omega), select_eq c.val 3 (by omega) (by omega)]
  unfold qlane
  split_ifs
  · rfl
  · exact h1
  · exact h2
  · rfl

/-- Row `c` of an augmented query column: the half asked for, then the lanes `s` asks for. -/
noncomputable def qcol (half : ℕ) (Q : Fin 128 → ℝ) (lane : ℕ → ℝ) (c : Fin 256) : ℝ :=
  if h : c.val < 128 then qhalf half Q ⟨c.val, h⟩ else lane (c.val - 128)

theorem pay24_apply (i : grid2.Coords) (x0 : Vec Ideal S1x128x1024 .bf16) (Q : Fin 128 → ℝ) (r : Fin 1024) (hQ : ∀ c, x0 (ix3 0 c r) = (Q c : EReal)) (c : Fin 256) :
    k2_pay24 (k2_pay23 i x0) (ix4 0 0 c r) = (qcol 0 Q (qlane (1024 * (i 2).val + r.val)) c : EReal) := by
  pointwise [k2_pay24, k2_pay23]
  unfold qcol
  split
  · rw [pay22_apply x0 Q r hQ]
  · rw [pay21_apply]
theorem pay25_apply (i : grid2.Coords) (x0 : Vec Ideal S1x128x1024 .bf16) (Q : Fin 128 → ℝ) (r : Fin 1024) (hQ : ∀ c, x0 (ix3 0 c r) = (Q c : EReal)) (c : Fin 256) :
    k2_pay25 (k2_pay21 i) (k2_pay22 x0) (ix4 0 0 c r) = (qcol 0 Q (fun l => -qlane (1024 * (i 2).val + r.val) l) c : EReal) := by
  pointwise [k2_pay25]
  unfold qcol
  split
  · rw [pay22_apply x0 Q r hQ]
  · rw [pay21_apply]; simp
theorem pay27_apply (i : grid2.Coords) (x0 : Vec Ideal S1x128x1024 .bf16) (Q : Fin 128 → ℝ) (r : Fin 1024) (hQ : ∀ c, x0 (ix3 0 c r) = (Q c : EReal)) (c : Fin 256) :
    k2_pay27 (k2_pay20 x0) (iota .tc S128x1024 32 [0] iota_S128x1024_d0_w32) (k2_pay21 i) (ix4 0 0 c r) = (qcol 1 Q (qlane (1024 * (i 2).val + r.val)) c : EReal) := by
  pointwise [k2_pay27]
  unfold qcol
  split
  · rw [pay26_apply x0 Q r hQ]
  · rw [pay21_apply]
theorem pay28_apply (i : grid2.Coords) (x0 : Vec Ideal S1x128x1024 .bf16) (Q : Fin 128 → ℝ) (r : Fin 1024) (hQ : ∀ c, x0 (ix3 0 c r) = (Q c : EReal)) (c : Fin 256) :
    k2_pay28 (k2_pay20 x0) (iota .tc S128x1024 32 [0] iota_S128x1024_d0_w32) (k2_pay21 i) (ix4 0 0 c r) = (qcol 1 Q (fun l => -qlane (1024 * (i 2).val + r.val) l) c : EReal) := by
  pointwise [k2_pay28]
  unfold qcol
  split
  · rw [pay26_apply x0 Q r hQ]
  · rw [pay21_apply]; simp

/-! ## The key rows -/

/-- The lanes beside a key's projection, as the kernel selects them. -/
theorem lanes_select (a h r l : ℕ) (ha : a < 4) (hr : r < 1024) (hl : l < 128) (s : EReal) (hs : s = (slope h : EReal)) :
    Scalar.select (IntOp.cmpi .eq (BitVec.ofNat 32 l) 0#32)
        (s * Ideal.ofBits .f32 0x42800000#32 * ((((IntOp.shrsi ArithUnit.vector (IntOp.addi (Scalar.muli (BitVec.ofNat 32 a) 1024#32) (BitVec.ofNat 32 r)) 6#32).toInt : ℝ)) : EReal))
        (Scalar.select (IntOp.cmpi .eq (BitVec.ofNat 32 l) 1#32)
          (s * ((((IntOp.andi (IntOp.addi (Scalar.muli (BitVec.ofNat 32 a) 1024#32) (BitVec.ofNat 32 r)) 63#32).toInt : ℝ)) : EReal))
          (Scalar.select (IntOp.cmpi .eq (BitVec.ofNat 32 l) 2#32) (Ideal.ofBits .f32 0xC2800000#32 * s)
            (Scalar.select (IntOp.cmpi .eq (BitVec.ofNat 32 l) 3#32) (0 - s) 0)))
      = (augR h (1024 * a + r) l : EReal) := by
  rw [hi_word a r ha hr, lo_word a r ha hr, cons_64, cons_neg64, hs]
  rw [select_eq l 0 (by omega) (by omega), select_eq l 1 (by omega) (by omega), select_eq l 2 (by omega) (by omega), select_eq l 3 (by omega) (by omega)]
  unfold augR
  split_ifs
  · rw [← EReal.coe_mul, ← EReal.coe_mul]
  · rw [← EReal.coe_mul]
  · rw [← EReal.coe_mul]
  · rw [show (0 : EReal) = ((0 : ℝ) : EReal) from rfl, ← EReal.coe_sub, zero_sub]
  · rfl

theorem head_word : ∀ n : Fin 4, Scalar.addi (Scalar.addi (Scalar.muli (BitVec.ofNat 32 n.val) 2#32) 0#32) 1#32 = BitVec.ofNat 32 (2 * n.val) + 1#32
    ∧ Scalar.addi (Scalar.addi (Scalar.muli (BitVec.ofNat 32 n.val) 2#32) 1#32) 1#32 = BitVec.ofNat 32 (2 * n.val + 1) + 1#32 := by decide

theorem k1_pay15_apply (i : grid1.Coords) (p : FVec Ideal S1024x256 .f32) (r : Fin 1024) (c : Fin 256) :
    k1_pay15 p k1_pay7 (k1_pay8 i) k1_pay9 (k1_pay10 i) k1_pay11 (k1_pay12 i) k1_pay13 (Scalar.ofBits .f32 0x00000000#32) (k1_pay14 i) (ix4 0 0 r c)
      = if h : c.val < 128 then p (ix2 r c) else (augR (2 * (i 2).val) (1024 * (i 1).val + r.val) (c.val - 128) : EReal) := by
  pointwise [k1_pay15, k1_pay7, k1_pay8, k1_pay9, k1_pay10, k1_pay11, k1_pay12, k1_pay13, k1_pay14, k1_pay6, k1_pay5, k1_pay4, k1_pay3]
  split
  · rfl
  · refine lanes_select (i 1).val (2 * (i 2).val) r.val (c.val - 128) (i 1).isLt r.isLt (by omega) _ ?_
    have h2 : (i 2).val < 4 := (i 2).isLt
    rw [(head_word ⟨(i 2).val, h2⟩).1]
    exact slope_exp2 _ (by omega)
theorem k1_pay1_apply (i : grid1.Coords) (p : FVec Ideal S1024x256 .f32) (r : Fin 1024) (c : Fin 256) :
    k1_pay1 (k1_pay16 (BitVec.ofNat 32 (i 2).val) p (iota .tc S1024x128 32 [1] iota_S1024x128_d1_w32) (k1_pay4 i) (k1_pay5 i)) (ix4 0 0 r c)
      = if h : c.val < 128 then p (ix2 r ⟨128 + c.val, by omega⟩) else (augR (2 * (i 2).val + 1) (1024 * (i 1).val + r.val) (c.val - 128) : EReal) := by
  pointwise [k1_pay1, k1_pay16, k1_pay5, k1_pay4, k1_pay3]
  split
  · rfl
  · refine lanes_select (i 1).val (2 * (i 2).val + 1) r.val (c.val - 128) (i 1).isLt r.isLt (by omega) _ ?_
    have h2 : (i 2).val < 4 := (i 2).isLt
    rw [(head_word ⟨(i 2).val, h2⟩).2]
    exact slope_exp2 _ (by omega)

end Cert.KernelIdeal.Gen
-- ==== Proof.Attn.lean ====
module

public import proofs.«01_k».proof.Proof.Pay
public import Idealize.ShloMosaic.Lib.Pointwise
public import Idealize.ShloMosaic.Lib.WordArith

/-!
# The attention call's output block, at an index

Over blocks whose query, key and value entries are real numbers, the block the attention call writes is the
difference of two softmax averages, normalised and scaled.
-/

@[expose] public section

set_option maxRecDepth 16384

noncomputable section

namespace Cert.KernelIdeal.Gen
open Idealize.ShloMosaic Idealize.ShloMosaic.TcCoe Cert.KernelIdeal Cert.Math
open Finset (univ)

/-! ## Where the body reads -/

/-- The tile trip `k` takes when the query tile is `q`: the `k`-th of the others. -/
def tile (q k : ℕ) : ℕ := if q ≤ k then k + 1 else k
/-- Whether that tile lies after the query tile. -/
def side (q k : ℕ) : ℕ := if q ≤ k then 1 else 0

theorem trips_eq : k2_t1_loop.trips = 3 := by decide +kernel
theorem off1_eq : ∀ (t : Fin grid2.N) (k : Fin k2_t1_loop.trips), k2_off1 (grid2.coords t) k = ![0, 0, 1024 * tile (grid2.coords t 2).val k.val, 0] := by decide +kernel
theorem off2_eq : ∀ (t : Fin grid2.N) (k : Fin k2_t1_loop.trips), k2_off2 (grid2.coords t) k = ![0, 0, 1024 * tile (grid2.coords t 2).val k.val] := by decide +kernel
theorem off3_eq : ∀ (t : Fin grid2.N) (k : Fin k2_t1_loop.trips), k2_off3 (grid2.coords t) k = ![0, side (grid2.coords t 2).val k.val, 0, 0] := by decide +kernel
theorem off4_eq : ∀ (t : Fin grid2.N) (k : Fin k2_t1_loop.trips), k2_off4 (grid2.coords t) k = ![1, side (grid2.coords t 2).val k.val, 0, 0] := by decide +kernel
theorem off5_eq : ∀ (t : Fin grid2.N), k2_off5 (grid2.coords t) = ![0, 0, 1024 * (grid2.coords t 2).val, 0] := by decide +kernel
theorem off6_eq : ∀ (t : Fin grid2.N), k2_off6 (grid2.coords t) = ![0, 0, 1024 * (grid2.coords t 2).val] := by decide +kernel

/-- A load reads the array where the rectangle puts the index. -/
theorem ld_unit {S T : Shape} (hr : T.rank = S.rank) {e : EltTy} (x : Vec Ideal S e) (off : Fin S.rank → ℕ) (sz : Fin S.rank → ℕ) (inb : ∀ a, off a + sz a ≤ S.size a)
    (i : (Rect.unit (s := S) off sz inb).shape.Idx) (y : S.Idx) (h : ∀ a, off a + (i a).val = (y a).val) :
    View.ld x (Rect.unit (s := S) off sz inb) i = x y := by
  have : (Rect.unit (s := S) off sz inb).emb i = y := funext fun a => Fin.ext (by
    rw [← h a]; show off a + 1 * (i a).val = _; rw [one_mul])
  exact congrArg x this

variable (t : Fin grid2.N)

theorem ldK (x1 : Vec Ideal S1x1x4096x256 .bf16) (k : Fin k2_t1_loop.trips) (j : Fin 1024) (c : Fin 256) (J : Fin 4096)
    (hJ : J.val = 1024 * tile (grid2.coords t 2).val k.val + j.val) :
    View.ld x1 (rK (grid2.coords t) k) (ix4 0 0 j c) = x1 (ix4 0 0 J c) := by
  refine ld_unit (T := S1x1x4096x256) rfl x1 _ _ _ _ _ fun a => ?_
  rw [congrFun (off1_eq t k) a]
  fin_cases a
  · rfl
  · rfl
  · exact hJ.symm
  · exact Nat.zero_add _
theorem ldV (x2 : Vec Ideal S1x128x4096 .bf16) (k : Fin k2_t1_loop.trips) (e : Fin 128) (j : Fin 1024) (J : Fin 4096)
    (hJ : J.val = 1024 * tile (grid2.coords t 2).val k.val + j.val) :
    View.ld x2 (rV (grid2.coords t) k) (ix3 0 e j) = x2 (ix3 0 e J) := by
  refine ld_unit (T := S1x128x4096) rfl x2 _ _ _ _ _ fun a => ?_
  rw [congrFun (off2_eq t k) a]
  fin_cases a
  · rfl
  · exact Nat.zero_add _
  · exact hJ.symm
theorem ldQa (q9 : Vec Ideal S2x2x256x1024 .bf16) (k : Fin k2_t1_loop.trips) (c : Fin 256) (r : Fin 1024) (s : Fin 2)
    (hs : s.val = side (grid2.coords t 2).val k.val) :
    View.ld q9 (rQa (grid2.coords t) k) (ix4 0 0 c r) = q9 (ix4 0 s c r) := by
  refine ld_unit (T := S2x2x256x1024) rfl q9 _ _ _ _ _ fun a => ?_
  rw [congrFun (off3_eq t k) a]
  fin_cases a
  · rfl
  · exact hs.symm
  · exact Nat.zero_add _
  · exact Nat.zero_add _
theorem ldQb (q9 : Vec Ideal S2x2x256x1024 .bf16) (k : Fin k2_t1_loop.trips) (c : Fin 256) (r : Fin 1024) (s : Fin 2)
    (hs : s.val = side (grid2.coords t 2).val k.val) :
    View.ld q9 (rQb (grid2.coords t) k) (ix4 0 0 c r) = q9 (ix4 1 s c r) := by
  refine ld_unit (T := S2x2x256x1024) rfl q9 _ _ _ _ _ fun a => ?_
  rw [congrFun (off4_eq t k) a]
  fin_cases a
  · rfl
  · exact hs.symm
  · exact Nat.zero_add _
  · exact Nat.zero_add _
theorem ldKd (x1 : Vec Ideal S1x1x4096x256 .bf16) (j : Fin 1024) (c : Fin 128) (J : Fin 4096)
    (hJ : J.val = 1024 * (grid2.coords t 2).val + j.val) :
    View.ld x1 (rKd (grid2.coords t)) (ix4 0 0 j c) = x1 (ix4 0 0 J ⟨c.val, by omega⟩) := by
  refine ld_unit (T := S1x1x4096x256) rfl x1 _ _ _ _ _ fun a => ?_
  rw [congrFun (off5_eq t) a]
  fin_cases a
  · rfl
  · rfl
  · exact hJ.symm
  · exact Nat.zero_add _
theorem ldVd (x2 : Vec Ideal S1x128x4096 .bf16) (e : Fin 128) (j : Fin 1024) (J : Fin 4096)
    (hJ : J.val = 1024 * (grid2.coords t 2).val + j.val) :
    View.ld x2 (rVd (grid2.coords t)) (ix3 0 e j) = x2 (ix3 0 e J) := by
  refine ld_unit (T := S1x128x4096) rfl x2 _ _ _ _ _ fun a => ?_
  rw [congrFun (off6_eq t) a]
  fin_cases a
  · rfl
  · exact Nat.zero_add _
  · exact hJ.symm
theorem ldH0 (q9 : Vec Ideal S2x2x256x1024 .bf16) (c : Fin 128) (r : Fin 1024) :
    View.ld q9 rH0 (ix4 0 0 c r) = q9 (ix4 0 0 ⟨c.val, by omega⟩ r) := by
  refine ld_unit (T := S2x2x256x1024) rfl q9 _ _ _ _ _ fun a => ?_
  fin_cases a
  · rfl
  · rfl
  · exact Nat.zero_add _
  · exact Nat.zero_add _
theorem ldH1 (q9 : Vec Ideal S2x2x256x1024 .bf16) (c : Fin 128) (r : Fin 1024) :
    View.ld q9 rH1 (ix4 0 0 c r) = q9 (ix4 1 0 ⟨c.val, by omega⟩ r) := by
  refine ld_unit (T := S2x2x256x1024) rfl q9 _ _ _ _ _ fun a => ?_
  fin_cases a
  · rfl
  · rfl
  · exact Nat.zero_add _
  · exact Nat.zero_add _

/-! ## The four augmented query tiles -/

theorem emb_at (hf s : Fin 2) (c : Fin 256) (r : Fin 1024) (off : Fin 4 → ℕ) (h : off = ![hf.val, s.val, 0, 0])
    (inb : ∀ a, off a + S1x1x256x1024.size a ≤ S2x2x256x1024.size a) :
    (Rect.unit (s := S2x2x256x1024) off S1x1x256x1024.size inb).emb (ix4 0 0 c r) = ix4 hf s c r := by
  subst h
  funext a
  refine Fin.ext ?_
  fin_cases a
  · rfl
  · rfl
  · show 0 + 1 * c.val = c.val; omega
  · show 0 + 1 * r.val = r.val; omega

theorem not_at (hf s hf' s' : Fin 2) (c : Fin 256) (r : Fin 1024) (off : Fin 4 → ℕ) (h : off = ![hf'.val, s'.val, 0, 0])
    (inb : ∀ a, off a + S1x1x256x1024.size a ≤ S2x2x256x1024.size a) (hne : hf ≠ hf' ∨ s ≠ s') :
    (ix4 hf s c r : S2x2x256x1024.Idx) ∉ (Rect.unit (s := S2x2x256x1024) off S1x1x256x1024.size inb).set := by
  subst h
  rw [Rect.mem_set_unit]
  intro hm
  have h0 := hm 0
  have h1 := hm 1
  change hf'.val ≤ hf.val ∧ hf.val < hf'.val + 1 at h0
  change s'.val ≤ s.val ∧ s.val < s'.val + 1 at h1
  rcases hne with h | h
  · exact h (Fin.ext (by omega))
  · exact h (Fin.ext (by omega))

/-- The lanes beside a query column: as they are for the keys before it, negated for those after it. -/
def sgn (s : Fin 2) (i l : ℕ) : ℝ := if s = 0 then qlane i l else -qlane i l

/-- The augmented query tiles, entry by entry. -/
theorem qaug_apply (i : grid2.Coords) (x0 : Vec Ideal S1x128x1024 .bf16) (Q : Fin 128 → ℝ) (r : Fin 1024) (hQ : ∀ c, x0 (ix3 0 c r) = (Q c : EReal))
    (hf s : Fin 2) (c : Fin 256) :
    qaug i x0 (ix4 hf s c r) = (qcol hf.val Q (sgn s (1024 * (i 2).val + r.val)) c : EReal) := by
  unfold qaug
  match hf, s with
  | 1, 1 =>
    rw [← emb_at 1 1 c r ![1, 1, 0, 0] rfl inb_S2x2x256x1024_S1x1x256x1024_1_1_0_0]
    exact (View.canon_cons_emb (Val := Elt Ideal) rQ11 _ _ _).trans (pay28_apply i x0 Q r hQ c)
  | 1, 0 =>
    refine (View.canon_cons_of_not_mem (Val := Elt Ideal) ⟨rQ11, _⟩ _ (not_at 1 0 1 1 c r _ rfl inb_S2x2x256x1024_S1x1x256x1024_1_1_0_0 (Or.inr (by decide)))).trans ?_
    rw [← emb_at 1 0 c r ![1, 0, 0, 0] rfl inb_S2x2x256x1024_S1x1x256x1024_1_0_0_0]
    exact (View.canon_cons_emb (Val := Elt Ideal) rQ10 _ _ _).trans (pay27_apply i x0 Q r hQ c)
  | 0, 1 =>
    refine (View.canon_cons_of_not_mem (Val := Elt Ideal) ⟨rQ11, _⟩ _ (not_at 0 1 1 1 c r _ rfl inb_S2x2x256x1024_S1x1x256x1024_1_1_0_0 (Or.inl (by decide)))).trans ?_
    refine (View.canon_cons_of_not_mem (Val := Elt Ideal) ⟨rQ10, _⟩ _ (not_at 0 1 1 0 c r _ rfl inb_S2x2x256x1024_S1x1x256x1024_1_0_0_0 (Or.inl (by decide)))).trans ?_
    rw [← emb_at 0 1 c r ![0, 1, 0, 0] rfl inb_S2x2x256x1024_S1x1x256x1024_0_1_0_0]
    exact (View.canon_cons_emb (Val := Elt Ideal) rQ01 _ _ _).trans (pay25_apply i x0 Q r hQ c)
  | 0, 0 =>
    refine (View.canon_cons_of_not_mem (Val := Elt Ideal) ⟨rQ11, _⟩ _ (not_at 0 0 1 1 c r _ rfl inb_S2x2x256x1024_S1x1x256x1024_1_1_0_0 (Or.inl (by decide)))).trans ?_
    refine (View.canon_cons_of_not_mem (Val := Elt Ideal) ⟨rQ10, _⟩ _ (not_at 0 0 1 0 c r _ rfl inb_S2x2x256x1024_S1x1x256x1024_1_0_0_0 (Or.inl (by decide)))).trans ?_
    refine (View.canon_cons_of_not_mem (Val := Elt Ideal) ⟨rQ01, _⟩ _ (not_at 0 0 0 1 c r _ rfl inb_S2x2x256x1024_S1x1x256x1024_0_1_0_0 (Or.inr (by decide)))).trans ?_
    rw [← emb_at 0 0 c r ![0, 0, 0, 0] rfl inb_S2x2x256x1024_S1x1x256x1024_0_0_0_0]
    exact (View.canon_cons_emb (Val := Elt Ideal) rQ00 _ _ _).trans (pay24_apply i x0 Q r hQ c)

/-! ## Scores -/

/-- The product of an augmented key row with an augmented query column is the score. -/
theorem score_tile (h : ℕ) (hf s : Fin 2) (Q Kj : Fin 128 → ℝ) (i j : ℕ) (hs : if s = 0 then j ≤ i else i ≤ j) (kr : Fin 256 → EReal)
    (hk : ∀ c, kr c = if hc : c.val < 128 then (Kj ⟨c.val, hc⟩ : EReal) else (augR h j (c.val - 128) : EReal)) :
    ∑ c : Fin 256, kr c * (qcol hf.val Q (sgn s i) c : EReal) = (score h hf Q Kj i j : EReal) := by
  have e : ∀ c : Fin 256, kr c * (qcol hf.val Q (sgn s i) c : EReal)
      = (((if hc : c.val < 128 then Kj ⟨c.val, hc⟩ else augR h j (c.val - 128)) * qcol hf.val Q (sgn s i) c : ℝ) : EReal) := fun c => by
    rw [hk c, EReal.coe_mul]; split <;> rfl
  rw [Finset.sum_congr rfl fun c _ => e c, coe_sum]
  congr 1
  rw [Fin.sum_univ_add (a := 128) (b := 128) (fun c : Fin (128 + 128) => (if hc : c.val < 128 then Kj ⟨c.val, hc⟩ else augR h j (c.val - 128)) * qcol hf.val Q (sgn s i) c)]
  have h1 : ∀ d : Fin 128, (if hc : (Fin.castAdd 128 d).val < 128 then Kj ⟨(Fin.castAdd 128 d).val, hc⟩ else augR h j ((Fin.castAdd 128 d).val - 128)) * qcol hf.val Q (sgn s i) (Fin.castAdd 128 d)
      = Kj d * qhalf hf.val Q d := fun d => by
    have : (Fin.castAdd 128 d).val < 128 := d.isLt
    unfold qcol
    rw [dif_pos this, dif_pos this]; rfl
  have h2 : ∀ d : Fin 128, (if hc : (Fin.natAdd 128 d).val < 128 then Kj ⟨(Fin.natAdd 128 d).val, hc⟩ else augR h j ((Fin.natAdd 128 d).val - 128)) * qcol hf.val Q (sgn s i) (Fin.natAdd 128 d)
      = augR h j d.val * sgn s i d.val := fun d => by
    have h3 : (Fin.natAdd 128 d).val = 128 + d.val := rfl
    have : ¬ (Fin.natAdd 128 d).val < 128 := by omega
    unfold qcol
    rw [dif_neg this, dif_neg this, h3, Nat.add_sub_cancel_left]
  rw [Finset.sum_congr rfl fun d _ => h1 d, Finset.sum_congr rfl fun d _ => h2 d]
  unfold sgn
  match s with
  | 0 => exact score_before h hf Q Kj i j hs
  | 1 => exact score_after h hf Q Kj i j hs

/-! ## The running softmaxes -/

/-- Both running softmaxes hold the tiles `T` for query `r`. -/
def Both (T : Finset (Fin 4)) (s0 s1 : Fin 4 → Fin 1024 → ℝ) (v : Fin 128 → Fin 4 → Fin 1024 → ℝ) (R : Rows Ideal) (r : Fin 1024) : Prop :=
  Inv T s0 v (R.m0 (ix3 0 0 r)) (R.l0 (ix3 0 0 r)) (fun e => R.a0 (ix3 0 e r))
    ∧ Inv T s1 v (R.m1 (ix3 0 0 r)) (R.l1 (ix3 0 0 r)) (fun e => R.a1 (ix3 0 e r))

theorem both_init (s0 s1 : Fin 4 → Fin 1024 → ℝ) (v : Fin 128 → Fin 4 → Fin 1024 → ℝ) (r : Fin 1024) : Both ∅ s0 s1 v rows0 r := by
  refine ⟨Inv.init _ _ _ _ _ ?_ ?_ fun e => ?_, Inv.init _ _ _ _ _ ?_ ?_ fun e => ?_⟩
  · obtain ⟨x, hx⟩ := cons_start
    refine ⟨x, Eq.trans ?_ hx⟩
    show View.ld (Val := Elt Ideal) (e' := .f32) (k2_pay30 (F := Ideal) k2_pay29) rR0 (ix3 0 0 r) = _
    pointwise [k2_pay30, k2_pay29]
  · show View.ld (Val := Elt Ideal) (e' := .f32) (k2_pay31 (F := Ideal)) rR0 (ix3 0 0 r) = _
    pointwise [k2_pay31]
  · show View.ld (Val := Elt Ideal) (e' := .f32) (k2_pay32 (F := Ideal)) rA0 (ix3 0 e r) = _
    pointwise [k2_pay32]
  · obtain ⟨x, hx⟩ := cons_start
    refine ⟨x, Eq.trans ?_ hx⟩
    show View.ld (Val := Elt Ideal) (e' := .f32) (k2_pay30 (F := Ideal) k2_pay29) rR1 (ix3 0 0 r) = _
    pointwise [k2_pay30, k2_pay29]
  · show View.ld (Val := Elt Ideal) (e' := .f32) (k2_pay31 (F := Ideal)) rR1 (ix3 0 0 r) = _
    pointwise [k2_pay31]
  · show View.ld (Val := Elt Ideal) (e' := .f32) (k2_pay32 (F := Ideal)) rA1 (ix3 0 e r) = _
    pointwise [k2_pay32]

theorem both_step {T : Finset (Fin 4)} {s0 s1 : Fin 4 → Fin 1024 → ℝ} {v : Fin 128 → Fin 4 → Fin 1024 → ℝ} {R : Rows Ideal} {r : Fin 1024}
    (h : Both T s0 s1 v R r) (τ : Fin 4) (hτ : τ ∉ T) (vt : FVec Ideal S128x1024 .bf16) (p0 p1 : FVec Ideal S1024x1024 .f32)
    (hv : ∀ e j, vt (ix2 e j) = (v e τ j : EReal)) (h0 : ∀ j, p0 (ix2 j r) = (s0 τ j : EReal)) (h1 : ∀ j, p1 (ix2 j r) = (s1 τ j : EReal)) :
    Both (insert τ T) s0 s1 v (upd vt p0 p1 R) r := by
  have hb : Ideal.ofBits .f32 0xFF800000#32 ≠ ⊤ := by rw [cons_ninf]; exact bot_ne_top
  refine ⟨h.1.step τ hτ (by decide) _ hb (fun j => p0 (ix2 j r)) h0 _ _ _ (upd_m p0 R.m0 r) (upd_l p0 R.m0 R.l0 r) fun e => ?_,
    h.2.step τ hτ (by decide) _ hb (fun j => p1 (ix2 j r)) h1 _ _ _ (upd_m p1 R.m1 r) (upd_l p1 R.m1 R.l1 r) fun e => ?_⟩
  · refine (upd_a vt p0 R.m0 R.a0 e r).trans ?_
    congr 1
    exact Finset.sum_congr rfl fun j _ => by rw [hv]; rfl
  · refine (upd_a vt p1 R.m1 R.a1 e r).trans ?_
    congr 1
    exact Finset.sum_congr rfl fun j _ => by rw [hv]; rfl

/-- The tiles taken in before trip `k`. -/
def taken (q : ℕ) : ℕ → Finset (Fin 4)
  | 0 => ∅
  | k + 1 => insert (Fin.ofNat 4 (tile q k)) (taken q k)
theorem taken_not : ∀ q : Fin 4, ∀ k : Fin 3, Fin.ofNat 4 (tile q.val k.val) ∉ taken q.val k.val := by decide
theorem taken_last : ∀ q : Fin 4, q ∉ taken q.val 3 := by decide
theorem taken_all : ∀ q : Fin 4, insert q (taken q.val 3) = univ := by decide
theorem tile_lt : ∀ q : Fin 4, ∀ k : Fin 3, tile q.val k.val < 4 := by decide

section
variable (x0 : Vec Ideal S1x128x1024 .bf16) (x1 : Vec Ideal S1x1x4096x256 .bf16) (x2 : Vec Ideal S1x128x4096 .bf16)
  (Q : Fin 128 → ℝ) (K : Fin 4096 → Fin 128 → ℝ) (W : Fin 128 → Fin 4096 → ℝ) (r : Fin 1024)

/-- The scores of query `i`, tile by tile. -/
def scores (h : ℕ) (hf : Fin 2) (Q : Fin 128 → ℝ) (K : Fin 4096 → Fin 128 → ℝ) (i : ℕ) : Fin 4 → Fin 1024 → ℝ :=
  fun τ j => score h hf Q (K ⟨1024 * τ.val + j.val, by omega⟩) i (1024 * τ.val + j.val)
/-- The values, tile by tile. -/
def vals (W : Fin 128 → Fin 4096 → ℝ) : Fin 128 → Fin 4 → Fin 1024 → ℝ := fun e τ j => W e ⟨1024 * τ.val + j.val, by omega⟩

theorem trip_both (hQ : ∀ c, x0 (ix3 0 c r) = (Q c : EReal))
    (hK : ∀ (j : Fin 4096) (c : Fin 256), x1 (ix4 0 0 j c) = if hc : c.val < 128 then (K j ⟨c.val, hc⟩ : EReal) else (augR (grid2.coords t 1).val j.val (c.val - 128) : EReal))
    (hW : ∀ e j, x2 (ix3 0 e j) = (W e j : EReal)) (k : Fin k2_t1_loop.trips) (T : Finset (Fin 4)) (R : Rows Ideal)
    (hT : Fin.ofNat 4 (tile (grid2.coords t 2).val k.val) ∉ T)
    (h : Both T (scores (grid2.coords t 1).val 0 Q K (1024 * (grid2.coords t 2).val + r.val)) (scores (grid2.coords t 1).val 1 Q K (1024 * (grid2.coords t 2).val + r.val)) (vals W) R r) :
    Both (insert (Fin.ofNat 4 (tile (grid2.coords t 2).val k.val)) T) (scores (grid2.coords t 1).val 0 Q K (1024 * (grid2.coords t 2).val + r.val))
      (scores (grid2.coords t 1).val 1 Q K (1024 * (grid2.coords t 2).val + r.val)) (vals W) (stepR (grid2.coords t) x1 x2 (qaug (grid2.coords t) x0) k R) r := by
  have hk3 : k.val < 3 := trips_eq ▸ k.isLt
  have hlt : tile (grid2.coords t 2).val k.val < 4 := tile_lt (grid2.coords t 2) ⟨k.val, hk3⟩
  have ht : (Fin.ofNat 4 (tile (grid2.coords t 2).val k.val)).val = tile (grid2.coords t 2).val k.val := Nat.mod_eq_of_lt hlt
  have hr := r.isLt
  have hside : side (grid2.coords t 2).val k.val < 2 := by unfold side; split <;> omega
  have hsd : ∀ j : Fin 1024, if (⟨side (grid2.coords t 2).val k.val, hside⟩ : Fin 2) = 0
      then 1024 * tile (grid2.coords t 2).val k.val + j.val ≤ 1024 * (grid2.coords t 2).val + r.val
      else 1024 * (grid2.coords t 2).val + r.val ≤ 1024 * tile (grid2.coords t 2).val k.val + j.val := fun j => by
    have hj := j.isLt
    by_cases hq : (grid2.coords t 2).val ≤ k.val
    · have e1 : side (grid2.coords t 2).val k.val = 1 := if_pos hq
      have e2 : tile (grid2.coords t 2).val k.val = k.val + 1 := if_pos hq
      rw [if_neg (by intro h; have := congrArg Fin.val h; simp [e1] at this), e2]; omega
    · have e1 : side (grid2.coords t 2).val k.val = 0 := if_neg hq
      have e2 : tile (grid2.coords t 2).val k.val = k.val := if_neg hq
      rw [if_pos (Fin.ext e1), e2]; omega
  have hJ : ∀ j : Fin 1024, 1024 * (Fin.ofNat 4 (tile (grid2.coords t 2).val k.val)).val + j.val < 4096 := fun j => by omega
  refine both_step h _ hT _ _ _ (fun e j => ?_) (fun j => ?_) (fun j => ?_)
  · rw [pay3_apply, ldV t x2 k e j ⟨1024 * (Fin.ofNat 4 (tile (grid2.coords t 2).val k.val)).val + j.val, hJ j⟩ (congrArg (fun n => 1024 * n + j.val) ht), hW]; rfl
  · rw [pay4_apply]
    unfold scores
    rw [← score_tile (grid2.coords t 1).val 0 ⟨side (grid2.coords t 2).val k.val, hside⟩ Q _ _ _ (by simpa only [ht] using hsd j) _ (hK _)]
    refine Finset.sum_congr rfl fun c _ => ?_
    rw [ldK t x1 k j c ⟨_, hJ j⟩ (congrArg (fun n => 1024 * n + j.val) ht), ldQa t _ k c r ⟨side (grid2.coords t 2).val k.val, hside⟩ rfl, qaug_apply _ x0 Q r hQ]
  · rw [pay5_apply]
    unfold scores
    rw [← score_tile (grid2.coords t 1).val 1 ⟨side (grid2.coords t 2).val k.val, hside⟩ Q _ _ _ (by simpa only [ht] using hsd j) _ (hK _)]
    refine Finset.sum_congr rfl fun c _ => ?_
    rw [ldK t x1 k j c ⟨_, hJ j⟩ (congrArg (fun n => 1024 * n + j.val) ht), ldQb t _ k c r ⟨side (grid2.coords t 2).val k.val, hside⟩ rfl, qaug_apply _ x0 Q r hQ]

/-- All tiles taken in. -/
theorem end_both (hQ : ∀ c, x0 (ix3 0 c r) = (Q c : EReal))
    (hK : ∀ (j : Fin 4096) (c : Fin 256), x1 (ix4 0 0 j c) = if hc : c.val < 128 then (K j ⟨c.val, hc⟩ : EReal) else (augR (grid2.coords t 1).val j.val (c.val - 128) : EReal))
    (hW : ∀ e j, x2 (ix3 0 e j) = (W e j : EReal)) :
    Both univ (scores (grid2.coords t 1).val 0 Q K (1024 * (grid2.coords t 2).val + r.val)) (scores (grid2.coords t 1).val 1 Q K (1024 * (grid2.coords t 2).val + r.val)) (vals W)
      (rowsEnd (grid2.coords t) x1 x2 (qaug (grid2.coords t) x0)) r := by
  have hall : ∀ k : ℕ, k ≤ 3 → Both (taken (grid2.coords t 2).val k) (scores (grid2.coords t 1).val 0 Q K (1024 * (grid2.coords t 2).val + r.val))
      (scores (grid2.coords t 1).val 1 Q K (1024 * (grid2.coords t 2).val + r.val)) (vals W) (rowsAt (grid2.coords t) x1 x2 (qaug (grid2.coords t) x0) k) r := by
    intro k
    induction k with
    | zero => intro _; exact both_init _ _ _ r
    | succ k ih =>
      intro hk
      have hkt : k < k2_t1_loop.trips := by rw [trips_eq]; omega
      have := trip_both t x0 x1 x2 Q K W r hQ hK hW ⟨k, hkt⟩ _ _ (taken_not (grid2.coords t 2) ⟨k, by omega⟩) (ih (by omega))
      rw [← rowsAt_succ (grid2.coords t) x1 x2 (qaug (grid2.coords t) x0) ⟨k, hkt⟩] at this
      exact this
  have h3 := hall 3 le_rfl
  have hr := r.isLt
  have key := both_step h3 (grid2.coords t 2) (taken_last (grid2.coords t 2)) (k2_pay37 (View.ld x2 (rVd (grid2.coords t))))
    (k2_pay39 (k2_pay19 (grid2.coords t)) (View.ld x1 (rKd (grid2.coords t))) (View.ld (qaug (grid2.coords t) x0) rH0))
    (k2_pay47 (k2_pay36 (View.ld x1 (rKd (grid2.coords t)))) (k2_pay38 (k2_pay19 (grid2.coords t))) (View.ld (qaug (grid2.coords t) x0) rH1))
    (fun e j => ?_) (fun j => ?_) (fun j => ?_)
  · rw [taken_all (grid2.coords t 2)] at key
    unfold rowsEnd
    rw [show rowsAt (grid2.coords t) x1 x2 (qaug (grid2.coords t) x0) k2_t1_loop.trips = rowsAt (grid2.coords t) x1 x2 (qaug (grid2.coords t) x0) 3 from by rw [trips_eq]]
    exact key
  · rw [pay37_apply, ldVd t x2 e j ⟨1024 * (grid2.coords t 2).val + j.val, by have : (grid2.coords t 2).val < 4 := (grid2.coords t 2).isLt; omega⟩ rfl, hW]; rfl
  · rw [pay39_apply, pay38_apply, pay19_apply, dist_word _ _ (by omega) (by omega)]
    have e : ∀ c : Fin 128, View.ld x1 (rKd (grid2.coords t)) (ix4 0 0 j c) * View.ld (qaug (grid2.coords t) x0) rH0 (ix4 0 0 c r)
        = ((K ⟨1024 * (grid2.coords t 2).val + j.val, by have : (grid2.coords t 2).val < 4 := (grid2.coords t 2).isLt; omega⟩ c * qhalf 0 Q c : ℝ) : EReal) := fun c => by
      rw [ldKd t x1 j c ⟨1024 * (grid2.coords t 2).val + j.val, by have : (grid2.coords t 2).val < 4 := (grid2.coords t 2).isLt; omega⟩ rfl, ldH0, qaug_apply _ x0 Q r hQ, hK, dif_pos c.isLt, EReal.coe_mul]
      unfold qcol
      rw [dif_pos c.isLt]; rfl
    rw [Finset.sum_congr rfl fun c _ => e c, coe_sum, show (0 : EReal) = ((0 : ℝ) : EReal) from rfl, ← EReal.coe_sub, ← EReal.coe_mul, ← EReal.coe_add]
    congr 1
    exact score_diag (grid2.coords t 1).val 0 Q _ (1024 * (grid2.coords t 2).val) r.val j.val
  · rw [pay47_apply, pay38_apply, pay19_apply, dist_word _ _ (by omega) (by omega)]
    have e : ∀ c : Fin 128, View.ld x1 (rKd (grid2.coords t)) (ix4 0 0 j c) * View.ld (qaug (grid2.coords t) x0) rH1 (ix4 0 0 c r)
        = ((K ⟨1024 * (grid2.coords t 2).val + j.val, by have : (grid2.coords t 2).val < 4 := (grid2.coords t 2).isLt; omega⟩ c * qhalf 1 Q c : ℝ) : EReal) := fun c => by
      rw [ldKd t x1 j c ⟨1024 * (grid2.coords t 2).val + j.val, by have : (grid2.coords t 2).val < 4 := (grid2.coords t 2).isLt; omega⟩ rfl, ldH1, qaug_apply _ x0 Q r hQ, hK, dif_pos c.isLt, EReal.coe_mul]
      unfold qcol
      rw [dif_pos c.isLt]; rfl
    rw [Finset.sum_congr rfl fun c _ => e c, coe_sum, show (0 : EReal) = ((0 : ℝ) : EReal) from rfl, ← EReal.coe_sub, ← EReal.coe_mul, ← EReal.coe_add]
    congr 1
    exact score_diag (grid2.coords t 1).val 1 Q _ (1024 * (grid2.coords t 2).val) r.val j.val

/-- The weight of the second softmax. -/
def lamE (x3 : Vec Ideal S4x64 .f32) : EReal :=
  Ideal.exp (∑ d : Fin 64, x3 (ix2 0 d) * x3 (ix2 1 d)) - Ideal.exp (∑ d : Fin 64, x3 (ix2 2 d) * x3 (ix2 3 d)) + Ideal.ofBits .f32 0x3E4CCCCD#32

/-- The difference of the two softmax averages. -/
def mix (h : ℕ) (lam : EReal) (Q : Fin 128 → ℝ) (K : Fin 4096 → Fin 128 → ℝ) (W : Fin 128 → Fin 4096 → ℝ) (i : ℕ) (e : Fin 128) : EReal :=
  (smx (scores h 0 Q K i) (vals W e) : EReal) - lam * (smx (scores h 1 Q K i) (vals W e) : EReal)

/-- A row `o` normalised by its mean square and scaled. -/
def normed (o : Fin 128 → EReal) (g : EReal) (e : Fin 128) : EReal :=
  o e * Ideal.rsqrt (Ideal.div (∑ d : Fin 128, o d * o d) (Ideal.ofBits .f32 0x43000000#32) + Ideal.ofBits .f32 0x358637BD#32) * g * Ideal.ofBits .f32 0x3F4CCCCD#32

/-- The attention call's output block at an index. -/
theorem attnOut_apply (hQ : ∀ c, x0 (ix3 0 c r) = (Q c : EReal))
    (hK : ∀ (j : Fin 4096) (c : Fin 256), x1 (ix4 0 0 j c) = if hc : c.val < 128 then (K j ⟨c.val, hc⟩ : EReal) else (augR (grid2.coords t 1).val j.val (c.val - 128) : EReal))
    (hW : ∀ e j, x2 (ix3 0 e j) = (W e j : EReal)) (x3 : Vec Ideal S4x64 .f32) (x4 : Vec Ideal S1x128 .f32) (e : Fin 128) :
    attnOut (grid2.coords t) x0 x1 x2 x3 x4 (ix2 r e)
      = normed (mix (grid2.coords t 1).val (lamE x3) Q K W (1024 * (grid2.coords t 2).val + r.val)) (x4 (ix2 0 e)) e := by
  obtain ⟨h0, h1⟩ := end_both t x0 x1 x2 Q K W r hQ hK hW
  have ho : ∀ d : Fin 128, k2_pay55 x3 (rowsEnd (grid2.coords t) x1 x2 (qaug (grid2.coords t) x0)).a0 (rowsEnd (grid2.coords t) x1 x2 (qaug (grid2.coords t) x0)).l0
      (rowsEnd (grid2.coords t) x1 x2 (qaug (grid2.coords t) x0)).a1 (rowsEnd (grid2.coords t) x1 x2 (qaug (grid2.coords t) x0)).l1 (ix2 d r)
      = mix (grid2.coords t 1).val (lamE x3) Q K W (1024 * (grid2.coords t 2).val + r.val) d := fun d => by
    rw [pay55_apply, h0.quot (by decide) d, h1.quot (by decide) d]; rfl
  unfold attnOut
  rw [pay1_apply, pay56_apply, ho]
  simp only [ho]
  rfl
end

end Cert.KernelIdeal.Gen
-- ==== Proof.Arrays.lean ====
module

public import proofs.«01_k».proof.Proof.Attn
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.StableHlo.ReadAt

/-!
# What the arrays between the calls hold, at an index
-/

@[expose] public section

set_option maxRecDepth 16384

noncomputable section

namespace Cert.KernelIdeal.Gen
open Idealize.ShloMosaic Idealize.ShloMosaic.TcCoe Cert.KernelIdeal Cert.Math
open Idealize.ShloMosaic.Pipeline (Dat Cfg Window BodyObligation cellOf)

theorem ix0_0 : ∀ t : Fin cfg0.N, win0_0.index t = ![(grid0.coords t 2).val, 0] := (by decide +kernel : ∀ t : Fin grid0.N, _)
theorem ix0_1 : ∀ t : Fin cfg0.N, win0_1.index t = ![4 * (grid0.coords t 0).val + (grid0.coords t 1).val, 0] := (by decide +kernel : ∀ t : Fin grid0.N, _)
theorem ix0_2 : ∀ t : Fin cfg0.N, win0_2.index t = ![(grid0.coords t 0).val, (grid0.coords t 2).val, (grid0.coords t 1).val] := (by decide +kernel : ∀ t : Fin grid0.N, _)
theorem ix1_0 : ∀ t : Fin cfg1.N, win1_0.index t = ![4 * (grid1.coords t 0).val + (grid1.coords t 1).val, 0] := (by decide +kernel : ∀ t : Fin grid1.N, _)
theorem ix1_1 : ∀ t : Fin cfg1.N, win1_1.index t = ![0, (grid1.coords t 2).val] := (by decide +kernel : ∀ t : Fin grid1.N, _)
theorem ix1_2 : ∀ t : Fin cfg1.N, win1_2.index t = ![(grid1.coords t 0).val, (grid1.coords t 2).val, (grid1.coords t 1).val, 0] := (by decide +kernel : ∀ t : Fin grid1.N, _)

/-- The first kernel's result: the weight rows times the input's rows. -/
def G0 (a : Vec Ideal S2048x2048 .bf16) (x : Vec Ideal S16384x2048 .bf16) : Vec Ideal S4x2048x4096 .bf16 := fun y =>
  ∑ k : Fin 2048, a (ix2 (y 1) k) * x (ix2 ⟨4096 * (y 0).val + (y 2).val, by idx_bounds y; omega⟩ k)

variable (V : (c : Dev nD) → (b : Ref sig .tc) → Buf (Elt Ideal) ((c : Thread nD τ).loc b))

theorem arr0 (c : Dev nD) : (dat0 V c).arrAt 2 cfg0.N = G0 (V c main_v5) (V c main_arg0) := by
  refine (dat0 V c).arrAt_eq_of_covers 2 _ (by decide +kernel) fun t hf y => ?_
  blk_simp
  rw [after0_2]
  frame_out
  pointwise [k0_pay1, G0]
  blk_point [iblk0, ix0_0 t, ix0_1 t, ix0_2 t]

/-- Two pieces along the second axis, at an index. -/
theorem canon_heads (p0 p1 : Vec Ideal S1x1x1024x256 .bf16) (f : Fin 2 → Fin 1024 → Fin 256 → EReal)
    (h0 : ∀ r c, p0 (ix4 0 0 r c) = f 0 r c) (h1 : ∀ r c, p1 (ix4 0 0 r c) = f 1 r c) (y : S1x2x1024x256.Idx) :
    View.canon (Val := Elt Ideal) [⟨r1_3, p1⟩, ⟨r1_2, p0⟩] y = f (y 1) (y 2) (y 3) := by
  have hy0 : (y 0).val < 1 := (y 0).isLt
  have hy1 : (y 1).val < 2 := (y 1).isLt
  by_cases h : (y 1).val = 0
  · have e : y = r1_2.emb (ix4 0 0 (y 2) (y 3)) := funext fun a => Fin.ext (by
      fin_cases a
      · show (y 0).val = 0 + 1 * 0; omega
      · show (y 1).val = 0 + 1 * 0; omega
      · show (y 2).val = 0 + 1 * (y 2).val; omega
      · show (y 3).val = 0 + 1 * (y 3).val; omega)
    refine (View.canon_cons_of_not_mem (Val := Elt Ideal) ⟨r1_3, p1⟩ _ ?_).trans ?_
    · rw [Rect.mem_set_unit]
      intro hm
      have h1 := (hm 1).1
      change 1 ≤ (y 1).val at h1
      omega
    · have hz : @Eq (Fin 2) (y 1) 0 := Fin.ext h
      refine Eq.trans ?_ ((h0 (y 2) (y 3)).trans (congrArg (fun a => f a (y 2) (y 3)) hz.symm))
      exact (congrArg (View.canon (Val := Elt Ideal) [⟨r1_2, p0⟩]) e).trans (View.canon_cons_emb (Val := Elt Ideal) r1_2 _ _ _)
  · have e : y = r1_3.emb (ix4 0 0 (y 2) (y 3)) := funext fun a => Fin.ext (by
      fin_cases a
      · show (y 0).val = 0 + 1 * 0; omega
      · show (y 1).val = 1 + 1 * 0; omega
      · show (y 2).val = 0 + 1 * (y 2).val; omega
      · show (y 3).val = 0 + 1 * (y 3).val; omega)
    have hz : @Eq (Fin 2) (y 1) 1 := Fin.ext (by show (y 1).val = 1; omega)
    refine Eq.trans ?_ ((h1 (y 2) (y 3)).trans (congrArg (fun a => f a (y 2) (y 3)) hz.symm))
    exact (congrArg (View.canon (Val := Elt Ideal) [⟨r1_3, p1⟩, ⟨r1_2, p0⟩]) e).trans (View.canon_cons_emb (Val := Elt Ideal) r1_3 _ _ _)

/-- The second kernel's result: the input's rows times a head's weight columns, then the lanes of the position. -/
def G1 (x : Vec Ideal S16384x2048 .bf16) (w : Vec Ideal S2048x1024 .bf16) : Vec Ideal S4x8x4096x256 .bf16 := fun y =>
  if h : (y 3).val < 128 then
    ∑ k : Fin 2048, x (ix2 ⟨4096 * (y 0).val + (y 2).val, by idx_bounds y; omega⟩ k) * w (ix2 k ⟨128 * (y 1).val + (y 3).val, by idx_bounds y; omega⟩)
  else (augR (y 1).val (y 2).val ((y 3).val - 128) : EReal)

theorem out1_apply (i : grid1.Coords) (x : Vec Ideal S1024x2048 .bf16) (w : Vec Ideal S2048x256 .bf16) (y : S1x2x1024x256.Idx) :
    out1_2 i x w y = if h : (y 3).val < 128 then ∑ k : Fin 2048, x (ix2 (y 2) k) * w (ix2 k ⟨128 * (y 1).val + (y 3).val, by idx_bounds y; omega⟩)
      else (augR (2 * (i 2).val + (y 1).val) (1024 * (i 1).val + (y 2).val) ((y 3).val - 128) : EReal) := by
  refine canon_heads _ _ (fun hd r c => if h : c.val < 128 then ∑ k : Fin 2048, x (ix2 r k) * w (ix2 k ⟨128 * hd.val + c.val, by omega⟩)
      else (augR (2 * (i 2).val + hd.val) (1024 * (i 1).val + r.val) (c.val - 128) : EReal)) (fun r c => ?_) (fun r c => ?_) y
  · refine (k1_pay15_apply i (k1_pay17 i x w) r c).trans ?_
    split
    · unfold k1_pay17
      rw [View.ld_unit_zero hzz2, View.ld_unit_zero hzz2, k1_pay2_apply]
      simp
    · rfl
  · refine (k1_pay1_apply i (k1_pay17 i x w) r c).trans ?_
    split
    · unfold k1_pay17
      rw [View.ld_unit_zero hzz2, View.ld_unit_zero hzz2, k1_pay2_apply]
      simp
    · rfl

theorem arr1 (c : Dev nD) : (dat1 V c).arrAt 2 cfg1.N = G1 (V c main_arg0) (V c main_v7) := by
  refine (dat1 V c).arrAt_eq_of_covers 2 _ (by decide +kernel) fun t hf y => ?_
  blk_simp
  rw [after1_2]
  refine (out1_apply _ _ _ y).trans ?_
  unfold G1
  blk_simp [ix1_2 t]
  split
  · blk_point [iblk1, ix1_0 t, ix1_1 t]
  · rw [Nat.mul_comm 2, Nat.mul_comm 1024]

theorem ix2_0 : ∀ t : Fin cfg2.N, win2_0.index t = ![16 * (grid2.coords t 0).val + (grid2.coords t 1).val, 0, (grid2.coords t 2).val] := (by decide +kernel : ∀ t : Fin grid2.N, _)
theorem ix2_1 : ∀ t : Fin cfg2.N, win2_1.index t = ![(grid2.coords t 0).val, (grid2.coords t 1).val, 0, 0] := (by decide +kernel : ∀ t : Fin grid2.N, _)
theorem ix2_2 : ∀ t : Fin cfg2.N, win2_2.index t = ![16 * (grid2.coords t 0).val + 8 + (grid2.coords t 1).val, 0, 0] := (by decide +kernel : ∀ t : Fin grid2.N, _)
theorem ix2_3 : ∀ t : Fin cfg2.N, win2_3.index t = ![0, 0] := (by decide +kernel : ∀ t : Fin grid2.N, _)
theorem ix2_4 : ∀ t : Fin cfg2.N, win2_4.index t = ![0, (grid2.coords t 1).val] := (by decide +kernel : ∀ t : Fin grid2.N, _)
theorem ix2_5 : ∀ t : Fin cfg2.N, win2_5.index t = ![4 * (grid2.coords t 0).val + (grid2.coords t 2).val, (grid2.coords t 1).val] := (by decide +kernel : ∀ t : Fin grid2.N, _)

variable (m : (ℓ : Loc nD τ sig) → Buf (Elt Ideal) ℓ) (ρ : Dev nD → PrngReg)
theorem v5_eq (c : Dev nD) (r k : Fin 2048) : (W1 m ρ c (Proc.devRef .tc main_v5) : Vec Ideal S2048x2048 .bf16) (ix2 r k)
    = if h : r.val < 1024 then (m ((c : Thread nD τ).loc main_arg1) : Vec Ideal S1x2048x12288 .f32) (ix3 0 k ⟨5120 + r.val, by omega⟩)
      else (m ((c : Thread nD τ).loc main_arg1) : Vec Ideal S1x2048x12288 .f32) (ix3 0 k ⟨7168 + (r.val - 1024), by omega⟩) := by
  unfold W1
  after_reads_at
  split
  · after_reads_at
  · after_reads_at
theorem v7_eq (c : Dev nD) (k : Fin 2048) (r : Fin 1024) : (W1 m ρ c (Proc.devRef .tc main_v7) : Vec Ideal S2048x1024 .bf16) (ix2 k r)
    = (m ((c : Thread nD τ).loc main_arg1) : Vec Ideal S1x2048x12288 .f32) (ix3 0 k ⟨6144 + r.val, by omega⟩) := by
  unfold W1
  after_reads_at

theorem v10_eq (c : Dev nD) (k : Fin 4) (r : Fin 64) : (W4 m ρ c (Proc.devRef .tc main_v10) : Vec Ideal S4x64 .f32) (ix2 k r)
    = (m ((c : Thread nD τ).loc main_arg2) : Vec Ideal S1x4x64 .f32) (ix3 0 k r) := by
  rw [← W3_args m ρ c main_arg2 (by decide)]
  unfold W4
  after_reads_at
theorem v13_eq (c : Dev nD) (r : Fin 1024) : (W4 m ρ c (Proc.devRef .tc main_v13) : Vec Ideal S1x1024 .f32) (ix2 0 r)
    = (m ((c : Thread nD τ).loc main_arg3) : Vec Ideal S1x1024 .f32) (ix2 0 r) := by
  rw [← W3_args m ρ c main_arg3 (by decide)]
  unfold W4
  after_reads_at
theorem v12_eq (c : Dev nD) (b : Fin 4) (a : Fin 16) (d : Fin 128) (t : Fin 4096) : (W4 m ρ c (Proc.devRef .tc main_v12) : Vec Ideal S64x128x4096 .bf16) (ix3 ⟨16 * b.val + a.val, by omega⟩ d t)
    = (W3 m ρ c (Proc.devRef .tc main_v8) : Vec Ideal S4x2048x4096 .bf16) (ix3 b ⟨128 * a.val + d.val, by omega⟩ t) := by
  unfold W4
  after_reads_at
  congr 2
  exact Fin.ext (by show (16 * b.val + a.val) % 16 * 128 + d.val = 128 * a.val + d.val; omega)

end Cert.KernelIdeal.Gen
-- ==== Proof.Result.lean ====
module

public import proofs.«01_k».proof.Proof.Arrays

/-!
# The attention call's result array, at an index

The projections are named once, as real numbers: `P r c` is row `r` of the input times column `5120 + c` of the
weight. The array the attention call leaves is written over them.
-/

@[expose] public section

set_option maxRecDepth 16384

noncomputable section

namespace Cert.KernelIdeal.Gen
open Idealize.ShloMosaic Idealize.ShloMosaic.TcCoe Cert.KernelIdeal Cert.Math
open Idealize.ShloMosaic.Pipeline (Dat Cfg Window BodyObligation cellOf)

/-- Query `i` of head `h` in batch `b`. -/
def qOf (P : Fin 16384 → Fin 3072 → ℝ) (b : Fin 4) (h : Fin 8) (i : Fin 4096) : Fin 128 → ℝ :=
  fun d => P ⟨4096 * b.val + i.val, by omega⟩ ⟨128 * h.val + d.val, by omega⟩
/-- The keys of head `h` in batch `b`. -/
def kOf (P : Fin 16384 → Fin 3072 → ℝ) (b : Fin 4) (h : Fin 8) : Fin 4096 → Fin 128 → ℝ :=
  fun j d => P ⟨4096 * b.val + j.val, by omega⟩ ⟨1024 + (128 * h.val + d.val), by omega⟩
/-- The values of head `h` in batch `b`. -/
def vOf (P : Fin 16384 → Fin 3072 → ℝ) (b : Fin 4) (h : Fin 8) : Fin 128 → Fin 4096 → ℝ :=
  fun e j => P ⟨4096 * b.val + j.val, by omega⟩ ⟨2048 + (128 * h.val + e.val), by omega⟩

/-- The result at batch `b`, position `i`, head `h`, entry `e`. -/
def resOf (P : Fin 16384 → Fin 3072 → ℝ) (lam : EReal) (g : EReal) (b : Fin 4) (i : Fin 4096) (h : Fin 8) (e : Fin 128) : EReal :=
  normed (mix h.val lam (qOf P b h i) (kOf P b h) (vOf P b h) i.val) g e

/-- The result array. -/
def resArr (P : Fin 16384 → Fin 3072 → ℝ) (lam : EReal) (g : Fin 1024 → EReal) : Vec Ideal S16384x1024 .bf16 := fun y =>
  resOf P lam (g (y 1)) ⟨(y 0).val / 4096, by idx_bounds y; omega⟩ ⟨(y 0).val % 4096, by omega⟩
    ⟨(y 1).val / 128, by idx_bounds y; omega⟩ ⟨(y 1).val % 128, by omega⟩

theorem resArr_at (P : Fin 16384 → Fin 3072 → ℝ) (lam : EReal) (g : Fin 1024 → EReal) (y : S16384x1024.Idx) (b : Fin 4) (i : Fin 4096) (h : Fin 8) (e : Fin 128)
    (h0 : (y 0).val = 4096 * b.val + i.val) (h1 : (y 1).val = 128 * h.val + e.val) : resArr P lam g y = resOf P lam (g (y 1)) b i h e := by
  unfold resArr
  congr 1
  · exact Fin.ext (by show (y 0).val / 4096 = b.val; omega)
  · exact Fin.ext (by show (y 0).val % 4096 = i.val; omega)
  · exact Fin.ext (by show (y 1).val / 128 = h.val; omega)
  · exact Fin.ext (by show (y 1).val % 128 = e.val; omega)

variable (m : (ℓ : Loc nD τ sig) → Buf (Elt Ideal) ℓ) (ρ : Dev nD → PrngReg) (c : Dev nD) (P : Fin 16384 → Fin 3072 → ℝ)

/-- Row `r` of the input times column `5120 + n` of the weight. -/
def rowCol (x : FVec Ideal S16384x2048 .bf16) (w : FVec Ideal S1x2048x12288 .f32) (r : Fin 16384) (n : Fin 3072) : EReal :=
  ∑ k : Fin 2048, x (ix2 r k) * w (ix3 0 k ⟨5120 + n.val, by omega⟩)

/-- What `P` is: the input's rows times the weight's columns from 5120 on. -/
def IsProj : Prop := ∀ (r : Fin 16384) (n : Fin 3072),
  rowCol (m ((c : Thread nD τ).loc main_arg0)) (m ((c : Thread nD τ).loc main_arg1)) r n = (P r n : EReal)

theorem v8_eq : (W3 m ρ c (Proc.devRef .tc main_v8) : Vec Ideal S4x2048x4096 .bf16)
    = G0 (W1 m ρ c (Proc.devRef .tc main_v5)) (m ((c : Thread nD τ).loc main_arg0)) := by
  rw [← W1_args m ρ c main_arg0 (by decide)]
  exact (W3_of_ne m ρ c main_v8 (by decide)).trans ((W2_arr m ρ c 2).trans (arr0 (V1 m ρ) c))

theorem v9_eq : (W4 m ρ c (Proc.devRef .tc main_v9) : Vec Ideal S4x8x4096x256 .bf16)
    = G1 (m ((c : Thread nD τ).loc main_arg0)) (W1 m ρ c (Proc.devRef .tc main_v7)) := by
  rw [← W2_args m ρ c main_arg0 (by decide), ← W2_of_ne m ρ c main_v7 (by decide)]
  exact (W4_of m ρ c main_v9 (by decide)).trans ((W3_arr m ρ c 2).trans (arr1 (V2 m ρ) c))

theorem v8_q (hP : IsProj m c P) (b : Fin 4) (h : Fin 8) (d : Fin 128) (t : Fin 4096) :
    (W4 m ρ c (Proc.devRef .tc main_v12) : Vec Ideal S64x128x4096 .bf16) (ix3 ⟨16 * b.val + h.val, by omega⟩ d t) = (qOf P b h t d : EReal) := by
  refine (v12_eq m ρ c b ⟨h.val, by omega⟩ d t).trans ?_
  rw [v8_eq]
  refine Eq.trans ?_ (hP ⟨4096 * b.val + t.val, by omega⟩ ⟨128 * h.val + d.val, by omega⟩)
  unfold G0 rowCol
  refine @Finset.sum_congr _ EReal _ _ _ _ _ rfl fun k _ => ?_
  refine (mul_comm (G := EReal) _ _).trans ?_
  refine congrArg (fun z : EReal => _ * z) ?_
  refine (v5_eq m ρ c _ k).trans ?_
  rw [dif_pos (by show 128 * h.val + d.val < 1024; omega)]
  rfl
theorem v8_v (hP : IsProj m c P) (b : Fin 4) (h : Fin 8) (d : Fin 128) (t : Fin 4096) :
    (W4 m ρ c (Proc.devRef .tc main_v12) : Vec Ideal S64x128x4096 .bf16) (ix3 ⟨16 * b.val + (8 + h.val), by omega⟩ d t) = (vOf P b h d t : EReal) := by
  refine (v12_eq m ρ c b ⟨8 + h.val, by omega⟩ d t).trans ?_
  rw [v8_eq]
  refine Eq.trans ?_ (hP ⟨4096 * b.val + t.val, by omega⟩ ⟨2048 + (128 * h.val + d.val), by omega⟩)
  unfold G0 rowCol
  refine @Finset.sum_congr _ EReal _ _ _ _ _ rfl fun k _ => ?_
  refine (mul_comm (G := EReal) _ _).trans ?_
  refine congrArg (fun z : EReal => _ * z) ?_
  refine (v5_eq m ρ c _ k).trans ?_
  rw [dif_neg (by show ¬ 128 * (8 + h.val) + d.val < 1024; omega)]
  congr 2
  exact Fin.ext (by show 7168 + (128 * (8 + h.val) + d.val - 1024) = 5120 + (2048 + (128 * h.val + d.val)); omega)
theorem v9_k (hP : IsProj m c P) (b : Fin 4) (h : Fin 8) (j : Fin 4096) (l : Fin 256) :
    (W4 m ρ c (Proc.devRef .tc main_v9) : Vec Ideal S4x8x4096x256 .bf16) (ix4 b h j l)
      = if hl : l.val < 128 then (kOf P b h j ⟨l.val, hl⟩ : EReal) else (augR h.val j.val (l.val - 128) : EReal) := by
  rw [v9_eq]
  unfold G1
  refine dite_congr rfl (fun hl => ?_) fun _ => rfl
  refine Eq.trans ?_ (hP ⟨4096 * b.val + j.val, by omega⟩ ⟨1024 + (128 * h.val + l.val), by have : l.val < 128 := hl; omega⟩)
  unfold rowCol
  refine @Finset.sum_congr _ EReal _ _ _ _ _ rfl fun k _ => ?_
  refine congrArg (fun z : EReal => _ * z) ?_
  refine (v7_eq m ρ c k _).trans ?_
  congr 2
  exact Fin.ext (by show 6144 + (128 * h.val + l.val) = 5120 + (1024 + (128 * h.val + l.val)); omega)

/-- The weight of the second softmax, from the argument. -/
def lamOf (l : Vec Ideal S1x4x64 .f32) : EReal :=
  Ideal.exp (∑ d : Fin 64, l (ix3 0 0 d) * l (ix3 0 1 d)) - Ideal.exp (∑ d : Fin 64, l (ix3 0 2 d) * l (ix3 0 3 d)) + Ideal.ofBits .f32 0x3E4CCCCD#32

end Cert.KernelIdeal.Gen
-- ==== Proof.Final.lean ====
module

public import proofs.«01_k».proof.Proof.Result

/-!
# The array the three calls leave
-/

@[expose] public section

set_option maxRecDepth 16384

noncomputable section

namespace Cert.KernelIdeal.Gen
open Idealize.ShloMosaic Idealize.ShloMosaic.TcCoe Cert.KernelIdeal Cert.Math
open Idealize.ShloMosaic.Pipeline (Dat Cfg Window BodyObligation cellOf)

variable (V : (c : Dev nD) → (b : Ref sig .tc) → Buf (Elt Ideal) ((c : Thread nD τ).loc b)) (c : Dev nD) (t : Fin cfg2.N)

/-! ## The blocks the attention call reads -/

theorem blk_q (d : Fin 128) (r : Fin 1024) (u : Fin 64) (i : Fin 4096) (hu : u.val = 16 * (grid2.coords t 0).val + (grid2.coords t 1).val)
    (hi : i.val = 1024 * (grid2.coords t 2).val + r.val) : (iblk2 V c 0 t : Vec Ideal S1x128x1024 .bf16) (ix3 0 d r) = V c main_v12 (ix3 u d i) := by
  blk_ext! [iblk2, ix2_0 t]
theorem blk_k (j : Fin 4096) (l : Fin 256) (b : Fin 4) (h : Fin 8) (hb : b.val = (grid2.coords t 0).val) (hh : h.val = (grid2.coords t 1).val) :
    (iblk2 V c 1 t : Vec Ideal S1x1x4096x256 .bf16) (ix4 0 0 j l) = V c main_v9 (ix4 b h j l) := by
  blk_ext! [iblk2, ix2_1 t]
theorem blk_v (e : Fin 128) (j : Fin 4096) (u : Fin 64) (hu : u.val = 16 * (grid2.coords t 0).val + 8 + (grid2.coords t 1).val) :
    (iblk2 V c 2 t : Vec Ideal S1x128x4096 .bf16) (ix3 0 e j) = V c main_v12 (ix3 u e j) := by
  blk_ext! [iblk2, ix2_2 t]
theorem blk_l (a : Fin 4) (d : Fin 64) : (iblk2 V c 3 t : Vec Ideal S4x64 .f32) (ix2 a d) = V c main_v10 (ix2 a d) := by
  blk_ext! [iblk2, ix2_3 t]
theorem blk_g (e : Fin 128) (n : Fin 1024) (hn : n.val = 128 * (grid2.coords t 1).val + e.val) :
    (iblk2 V c 4 t : Vec Ideal S1x128 .f32) (ix2 0 e) = V c main_v13 (ix2 0 n) := by
  blk_ext! [iblk2, ix2_4 t]

variable (m : (ℓ : Loc nD τ sig) → Buf (Elt Ideal) ℓ) (ρ : Dev nD → PrngReg) (P : Fin 16384 → Fin 3072 → ℝ)

/-- The attention call's output block at point `t`. -/
theorem outs_apply (hP : IsProj m c P) (r : Fin 1024) (e : Fin 128) (b : Fin 4) (h : Fin 8) (i : Fin 4096) (n : Fin 1024)
    (hb : b.val = (grid2.coords t 0).val) (hh : h.val = (grid2.coords t 1).val) (hi : i.val = 1024 * (grid2.coords t 2).val + r.val) (hn : n.val = 128 * h.val + e.val) :
    outsAt2 (V4 m ρ) c t (ix2 r e) = resOf P (lamOf (m ((c : Thread nD τ).loc main_arg2))) ((m ((c : Thread nD τ).loc main_arg3) : Vec Ideal S1x1024 .f32) (ix2 0 n)) b i h e := by
  unfold outsAt2
  refine (attnOut_apply t (iblk2 (V4 m ρ) c 0 t) (iblk2 (V4 m ρ) c 1 t) (iblk2 (V4 m ρ) c 2 t) (qOf P b h i) (kOf P b h) (vOf P b h) r
      (fun d => ?_) (fun j l => ?_) (fun d j => ?_) (iblk2 (V4 m ρ) c 3 t) (iblk2 (V4 m ρ) c 4 t) e).trans ?_
  · exact (blk_q (V4 m ρ) c t d r ⟨16 * b.val + h.val, by omega⟩ i (by rw [← hb, ← hh]) hi).trans (v8_q m ρ c P hP b h d i)
  · rw [← hh]
    exact (blk_k (V4 m ρ) c t j l b h hb hh).trans (v9_k m ρ c P hP b h j l)
  · exact (blk_v (V4 m ρ) c t d j ⟨16 * b.val + (8 + h.val), by omega⟩ (by rw [← hb, ← hh]; show 16 * b.val + (8 + h.val) = _; omega)).trans (v8_v m ρ c P hP b h d j)
  · have hl : ∀ a d, (iblk2 (V4 m ρ) c 3 t : Vec Ideal S4x64 .f32) (ix2 a d) = (m ((c : Thread nD τ).loc main_arg2) : Vec Ideal S1x4x64 .f32) (ix3 0 a d) :=
      fun a d => (blk_l (V4 m ρ) c t a d).trans (v10_eq m ρ c a d)
    have hlam : lamE (iblk2 (V4 m ρ) c 3 t) = lamOf (m ((c : Thread nD τ).loc main_arg2)) := by
      unfold lamE lamOf
      simp only [hl]
    have hg : (iblk2 (V4 m ρ) c 4 t : Vec Ideal S1x128 .f32) (ix2 0 e) = (m ((c : Thread nD τ).loc main_arg3) : Vec Ideal S1x1024 .f32) (ix2 0 n) :=
      (blk_g (V4 m ρ) c t e n (by rw [hn, hh])).trans (v13_eq m ρ c n)
    unfold resOf
    rw [hlam, hg, ← hh, ← hi]

/-- The array the three calls leave. -/
theorem result (hP : IsProj m c P) : (W5 m ρ c (Proc.devRef .tc main_v14) : Vec Ideal S16384x1024 .bf16)
    = resArr P (lamOf (m ((c : Thread nD τ).loc main_arg2))) (fun n => (m ((c : Thread nD τ).loc main_arg3) : Vec Ideal S1x1024 .f32) (ix2 0 n)) := by
  refine (W5_arr m ρ c 5).trans ?_
  refine (dat2 (V4 m ρ) c).arrAt_eq_of_covers 5 _ (by decide +kernel) fun t hf y => ?_
  rw [after2_5]
  have hb : (grid2.coords t 0).val < 4 := (grid2.coords t 0).isLt
  have hh : (grid2.coords t 1).val < 8 := (grid2.coords t 1).isLt
  have hq : (grid2.coords t 2).val < 4 := (grid2.coords t 2).isLt
  have hr : (y 0).val < 1024 := (y 0).isLt
  have he : (y 1).val < 128 := (y 1).isLt
  refine Eq.trans ?_ (resArr_at P _ _ _ ⟨(grid2.coords t 0).val, hb⟩ ⟨1024 * (grid2.coords t 2).val + (y 0).val, by omega⟩ ⟨(grid2.coords t 1).val, hh⟩ ⟨(y 1).val, he⟩ ?_ ?_).symm
  · refine Eq.trans ?_ (outs_apply c t m ρ P hP ⟨(y 0).val, hr⟩ ⟨(y 1).val, he⟩ ⟨(grid2.coords t 0).val, hb⟩ ⟨(grid2.coords t 1).val, hh⟩
      ⟨1024 * (grid2.coords t 2).val + (y 0).val, by omega⟩ _ rfl rfl rfl ?_)
    · exact congrArg (outsAt2 (V4 m ρ) c t) (funext fun a => by fin_cases a <;> rfl)
    · blk_simp [ix2_5 t]
      dsimp only
      omega
  · blk_simp [ix2_5 t]
    dsimp only
    omega
  · blk_simp [ix2_5 t]
    dsimp only
    omega

end Cert.KernelIdeal.Gen
-- ==== Proof.RefDefs.lean ====
module

public import proofs.«01_k».proof.Proof.Gen.ReferenceIdeal.Run
public import proofs.«01_k».proof.Proof.Final
public import Idealize.ShloMosaic.Lib.Pointwise

/-!
# The reference's stages

Each value the reference binds, named, so that it can be read at an index stage by stage.
-/

@[expose] public section

set_option maxRecDepth 16384

noncomputable section

namespace Cert.ReferenceIdeal.Value
open Cert.ReferenceIdeal Cert.ReferenceIdeal.Gen Idealize.ShloMosaic

def rv0 (x : FVec Ideal S16384x2048 .bf16) : FVec Ideal S16384x2048 .f32 := extf .f32 x bitsLt_bf16_f32
def rv1 (w : FVec Ideal S1x2048x12288 .f32) : FVec Ideal S2048x12288 .f32 := shapeCast _ w shapeCasts_S1x2048x12288_S2048x12288
def rv2 (x : FVec Ideal S16384x2048 .bf16) (w : FVec Ideal S1x2048x12288 .f32) : FVec Ideal S16384x12288 .f32 := Host.dotGeneral dot_S16384x2048_S2048x12288_S16384x12288_1_0_0_1_n_n none (rv0 x) (rv1 w)
def rv3 (x : FVec Ideal S16384x2048 .bf16) (w : FVec Ideal S1x2048x12288 .f32) : FVec Ideal S16384x1024 .f32 := extractStridedSlice S16384x1024 ![0, 0] (rv2 x w) slices_S16384x12288_S16384x1024_0_0
def rv4 (x : FVec Ideal S16384x2048 .bf16) (w : FVec Ideal S1x2048x12288 .f32) : FVec Ideal S16384x1024 .f32 := extractStridedSlice S16384x1024 ![0, 1024] (rv2 x w) slices_S16384x12288_S16384x1024_0_1024
def rv5 (x : FVec Ideal S16384x2048 .bf16) (w : FVec Ideal S1x2048x12288 .f32) : FVec Ideal S16384x1024 .f32 := extractStridedSlice S16384x1024 ![0, 2048] (rv2 x w) slices_S16384x12288_S16384x1024_0_2048
def rv6 (x : FVec Ideal S16384x2048 .bf16) (w : FVec Ideal S1x2048x12288 .f32) : FVec Ideal S16384x1024 .f32 := extractStridedSlice S16384x1024 ![0, 3072] (rv2 x w) slices_S16384x12288_S16384x1024_0_3072
def rv7 (x : FVec Ideal S16384x2048 .bf16) (w : FVec Ideal S1x2048x12288 .f32) : FVec Ideal S16384x1024 .f32 := extractStridedSlice S16384x1024 ![0, 4096] (rv2 x w) slices_S16384x12288_S16384x1024_0_4096
def rv8 (x : FVec Ideal S16384x2048 .bf16) (w : FVec Ideal S1x2048x12288 .f32) : FVec Ideal S16384x1024 .f32 := extractStridedSlice S16384x1024 ![0, 5120] (rv2 x w) slices_S16384x12288_S16384x1024_0_5120
def rv9 (x : FVec Ideal S16384x2048 .bf16) (w : FVec Ideal S1x2048x12288 .f32) : FVec Ideal S16384x1024 .f32 := extractStridedSlice S16384x1024 ![0, 6144] (rv2 x w) slices_S16384x12288_S16384x1024_0_6144
def rv10 (x : FVec Ideal S16384x2048 .bf16) (w : FVec Ideal S1x2048x12288 .f32) : FVec Ideal S16384x1024 .f32 := extractStridedSlice S16384x1024 ![0, 7168] (rv2 x w) slices_S16384x12288_S16384x1024_0_7168
def rv11 (x : FVec Ideal S16384x2048 .bf16) (w : FVec Ideal S1x2048x12288 .f32) : FVec Ideal S16384x4096 .f32 := extractStridedSlice S16384x4096 ![0, 8192] (rv2 x w) slices_S16384x12288_S16384x4096_0_8192
def rv12 (x : FVec Ideal S16384x2048 .bf16) (w : FVec Ideal S1x2048x12288 .f32) : FVec Ideal S4x4096x8x2x64 .f32 := shapeCast _ (rv8 x w) shapeCasts_S16384x1024_S4x4096x8x2x64
def rv13 (x : FVec Ideal S16384x2048 .bf16) (w : FVec Ideal S1x2048x12288 .f32) : FVec Ideal S4x4096x8x2x64 .f32 := shapeCast _ (rv9 x w) shapeCasts_S16384x1024_S4x4096x8x2x64
def rv14 (x : FVec Ideal S16384x2048 .bf16) (w : FVec Ideal S1x2048x12288 .f32) : FVec Ideal S4x4096x8x128 .f32 := shapeCast _ (rv10 x w) shapeCasts_S16384x1024_S4x4096x8x128
def rv15 (l : FVec Ideal S1x4x64 .f32) : FVec Ideal S4x64 .f32 := shapeCast _ l shapeCasts_S1x4x64_S4x64
def rv16 (l : FVec Ideal S1x4x64 .f32) : FVec Ideal S1x64 .f32 := extractStridedSlice S1x64 ![0, 0] (rv15 l) slices_S4x64_S1x64_0_0
def rv17 (l : FVec Ideal S1x4x64 .f32) : FVec Ideal S64 .f32 := shapeCast _ (rv16 l) shapeCasts_S1x64_S64
def rv18 (l : FVec Ideal S1x4x64 .f32) : FVec Ideal S1x64 .f32 := extractStridedSlice S1x64 ![1, 0] (rv15 l) slices_S4x64_S1x64_1_0
def rv19 (l : FVec Ideal S1x4x64 .f32) : FVec Ideal S64 .f32 := shapeCast _ (rv18 l) shapeCasts_S1x64_S64
def rv20 (l : FVec Ideal S1x4x64 .f32) : FVec Ideal S64 .f32 := mulf (rv17 l) (rv19 l)
def rcst  : FVec Ideal S_ .f32 := constant (F := Ideal) S_ .f32 0x00000000#32
def rv21 (l : FVec Ideal S1x4x64 .f32) : FVec Ideal S_ .f32 := Host.reduceAdd (rv20 l) rcst reducesTo_S64_S_d0 h_S_
def rv22 (l : FVec Ideal S1x4x64 .f32) : FVec Ideal S_ .f32 := Host.exp (rv21 l)
def rv23 (l : FVec Ideal S1x4x64 .f32) : FVec Ideal S1x64 .f32 := extractStridedSlice S1x64 ![2, 0] (rv15 l) slices_S4x64_S1x64_2_0
def rv24 (l : FVec Ideal S1x4x64 .f32) : FVec Ideal S64 .f32 := shapeCast _ (rv23 l) shapeCasts_S1x64_S64
def rv25 (l : FVec Ideal S1x4x64 .f32) : FVec Ideal S1x64 .f32 := extractStridedSlice S1x64 ![3, 0] (rv15 l) slices_S4x64_S1x64_3_0
def rv26 (l : FVec Ideal S1x4x64 .f32) : FVec Ideal S64 .f32 := shapeCast _ (rv25 l) shapeCasts_S1x64_S64
def rv27 (l : FVec Ideal S1x4x64 .f32) : FVec Ideal S64 .f32 := mulf (rv24 l) (rv26 l)
def rcst_0  : FVec Ideal S_ .f32 := constant (F := Ideal) S_ .f32 0x00000000#32
def rv28 (l : FVec Ideal S1x4x64 .f32) : FVec Ideal S_ .f32 := Host.reduceAdd (rv27 l) rcst_0 reducesTo_S64_S_d0 h_S_
def rv29 (l : FVec Ideal S1x4x64 .f32) : FVec Ideal S_ .f32 := Host.exp (rv28 l)
def rv30 (l : FVec Ideal S1x4x64 .f32) : FVec Ideal S_ .f32 := subf (rv22 l) (rv29 l)
def rcst_1  : FVec Ideal S_ .f32 := constant (F := Ideal) S_ .f32 0x3E4CCCCD#32
def rv31 (l : FVec Ideal S1x4x64 .f32) : FVec Ideal S_ .f32 := addf (rv30 l) rcst_1
def rv32  : FVec Ideal S8 .f32 := (sitofp (F := Ideal) .f32 (iotaInDim S8 32 0))
def rcst_2  : FVec Ideal S_ .f32 := constant (F := Ideal) S_ .f32 0x3F800000#32
def rv33  : FVec Ideal S8 .f32 := broadcastInDim S8 ![] bcast_S_S8 rcst_2
def rv34  : FVec Ideal S8 .f32 := addf rv33 rv32
def rcst_3  : FVec Ideal S_ .f32 := constant (F := Ideal) S_ .f32 0xC1000000#32
def rv35  : FVec Ideal S8 .f32 := broadcastInDim S8 ![] bcast_S_S8 rcst_3
def rv36  : FVec Ideal S8 .f32 := mulf rv35 rv34
def rcst_4  : FVec Ideal S_ .f32 := constant (F := Ideal) S_ .f32 0x41000000#32
def rv37  : FVec Ideal S8 .f32 := broadcastInDim S8 ![] bcast_S_S8 rcst_4
def rv38  : FVec Ideal S8 .f32 := Host.divf rv36 rv37
def rcst_5  : FVec Ideal S_ .f32 := constant (F := Ideal) S_ .f32 0x40000000#32
def rv39  : FVec Ideal S8 .f32 := broadcastInDim S8 ![] bcast_S_S8 rcst_5
def rv40  : FVec Ideal S8 .f32 := Host.powf rv39 rv38
def rv41  : IVec S4096 32 := (iotaInDim S4096 32 0)
def rv42 (x : FVec Ideal S16384x2048 .bf16) (w : FVec Ideal S1x2048x12288 .f32) : FVec Ideal S4x8x2x4096x4096 .f32 := Host.dotGeneral dot_S4x4096x8x2x64_S4x4096x8x2x64_S4x8x2x4096x4096_4_4_1_1_023_023 none (rv12 x w) (rv13 x w)
def rcst_6  : FVec Ideal S_ .f32 := constant (F := Ideal) S_ .f32 0x3E000000#32
def rv43  : FVec Ideal S4x8x2x4096x4096 .f32 := broadcastInDim S4x8x2x4096x4096 ![] bcast_S_S4x8x2x4096x4096 rcst_6
def rv44 (x : FVec Ideal S16384x2048 .bf16) (w : FVec Ideal S1x2048x12288 .f32) : FVec Ideal S4x8x2x4096x4096 .f32 := mulf (rv42 x w) rv43
def rv45  : IVec S4096x1 32 := broadcastInDim S4096x1 ![0] bcast_S4096_S4096x1_0 rv41
def rv46  : IVec S1x4096 32 := broadcastInDim S1x4096 ![1] bcast_S4096_S1x4096_1 rv41
def rv47  : IVec S4096x4096 32 := broadcastInDim S4096x4096 ![0, 1] bcast_S4096x1_S4096x4096_0_1 rv45
def rv48  : IVec S4096x4096 32 := broadcastInDim S4096x4096 ![0, 1] bcast_S1x4096_S4096x4096_0_1 rv46
def rv49  : IVec S4096x4096 32 := subi rv47 rv48
def rv50  : IVec S4096x4096 32 := absi rv49
def rv51  : FVec Ideal S4096x4096 .f32 := sitofp .f32 rv50
def rv52  : FVec Ideal S1x8x1x1x1 .f32 := broadcastInDim S1x8x1x1x1 ![1] bcast_S8_S1x8x1x1x1_1 rv40
def rv53  : FVec Ideal S1x1x1x4096x4096 .f32 := broadcastInDim S1x1x1x4096x4096 ![3, 4] bcast_S4096x4096_S1x1x1x4096x4096_3_4 rv51
def rv54  : FVec Ideal S1x8x1x4096x4096 .f32 := broadcastInDim S1x8x1x4096x4096 ![0, 1, 2, 3, 4] bcast_S1x8x1x1x1_S1x8x1x4096x4096_0_1_2_3_4 rv52
def rv55  : FVec Ideal S1x8x1x4096x4096 .f32 := broadcastInDim S1x8x1x4096x4096 ![0, 1, 2, 3, 4] bcast_S1x1x1x4096x4096_S1x8x1x4096x4096_0_1_2_3_4 rv53
def rv56  : FVec Ideal S1x8x1x4096x4096 .f32 := mulf rv54 rv55
def rv57  : FVec Ideal S4x8x2x4096x4096 .f32 := broadcastInDim S4x8x2x4096x4096 ![0, 1, 2, 3, 4] bcast_S1x8x1x4096x4096_S4x8x2x4096x4096_0_1_2_3_4 rv56
def rv58 (x : FVec Ideal S16384x2048 .bf16) (w : FVec Ideal S1x2048x12288 .f32) : FVec Ideal S4x8x2x4096x4096 .f32 := subf (rv44 x w) rv57
def rcst_7  : FVec Ideal S_ .f32 := constant (F := Ideal) S_ .f32 0xFF800000#32
def rv59 (x : FVec Ideal S16384x2048 .bf16) (w : FVec Ideal S1x2048x12288 .f32) : FVec Ideal S4x8x2x4096 .f32 := Host.reduce FloatOps.maximumf (rv58 x w) rcst_7 reducesTo_S4x8x2x4096x4096_S4x8x2x4096_d4 h_S_
def rcst_8  : FVec Ideal S_ .f32 := constant (F := Ideal) S_ .f32 0xFF800000#32
def rv60  : FVec Ideal S4x8x2x4096 .f32 := broadcastInDim S4x8x2x4096 ![] bcast_S_S4x8x2x4096 rcst_8
def rv61 (x : FVec Ideal S16384x2048 .bf16) (w : FVec Ideal S1x2048x12288 .f32) : FVec Ideal S4x8x2x4096 .f32 := maximumf rv60 (rv59 x w)
def rv62 (x : FVec Ideal S16384x2048 .bf16) (w : FVec Ideal S1x2048x12288 .f32) : FVec Ideal S4x8x2x4096x1 .f32 := broadcastInDim S4x8x2x4096x1 ![0, 1, 2, 3] bcast_S4x8x2x4096_S4x8x2x4096x1_0_1_2_3 (rv61 x w)
def rv63 (x : FVec Ideal S16384x2048 .bf16) (w : FVec Ideal S1x2048x12288 .f32) : FVec Ideal S4x8x2x4096x4096 .f32 := broadcastInDim S4x8x2x4096x4096 ![0, 1, 2, 3, 4] bcast_S4x8x2x4096x1_S4x8x2x4096x4096_0_1_2_3_4 (rv62 x w)
def rv64 (x : FVec Ideal S16384x2048 .bf16) (w : FVec Ideal S1x2048x12288 .f32) : FVec Ideal S4x8x2x4096x4096 .f32 := subf (rv58 x w) (rv63 x w)
def rv65 (x : FVec Ideal S16384x2048 .bf16) (w : FVec Ideal S1x2048x12288 .f32) : FVec Ideal S4x8x2x4096x4096 .f32 := Host.exp (rv64 x w)
def rcst_9  : FVec Ideal S_ .f32 := constant (F := Ideal) S_ .f32 0x00000000#32
def rv66 (x : FVec Ideal S16384x2048 .bf16) (w : FVec Ideal S1x2048x12288 .f32) : FVec Ideal S4x8x2x4096 .f32 := Host.reduceAdd (rv65 x w) rcst_9 reducesTo_S4x8x2x4096x4096_S4x8x2x4096_d4 h_S_
def rv67 (x : FVec Ideal S16384x2048 .bf16) (w : FVec Ideal S1x2048x12288 .f32) : FVec Ideal S4x8x2x4096x1 .f32 := broadcastInDim S4x8x2x4096x1 ![0, 1, 2, 3] bcast_S4x8x2x4096_S4x8x2x4096x1_0_1_2_3 (rv66 x w)
def rv68 (x : FVec Ideal S16384x2048 .bf16) (w : FVec Ideal S1x2048x12288 .f32) : FVec Ideal S4x8x2x4096x4096 .f32 := broadcastInDim S4x8x2x4096x4096 ![0, 1, 2, 3, 4] bcast_S4x8x2x4096x1_S4x8x2x4096x4096_0_1_2_3_4 (rv67 x w)
def rv69 (x : FVec Ideal S16384x2048 .bf16) (w : FVec Ideal S1x2048x12288 .f32) : FVec Ideal S4x8x2x4096x4096 .f32 := Host.divf (rv65 x w) (rv68 x w)
def rv70 (x : FVec Ideal S16384x2048 .bf16) (w : FVec Ideal S1x2048x12288 .f32) : FVec Ideal S4x8x1x4096x4096 .f32 := extractStridedSlice S4x8x1x4096x4096 ![0, 0, 0, 0, 0] (rv69 x w) slices_S4x8x2x4096x4096_S4x8x1x4096x4096_0_0_0_0_0
def rv71 (x : FVec Ideal S16384x2048 .bf16) (w : FVec Ideal S1x2048x12288 .f32) : FVec Ideal S4x8x4096x4096 .f32 := shapeCast _ (rv70 x w) shapeCasts_S4x8x1x4096x4096_S4x8x4096x4096
def rv72 (x : FVec Ideal S16384x2048 .bf16) (w : FVec Ideal S1x2048x12288 .f32) : FVec Ideal S4x8x1x4096x4096 .f32 := extractStridedSlice S4x8x1x4096x4096 ![0, 0, 1, 0, 0] (rv69 x w) slices_S4x8x2x4096x4096_S4x8x1x4096x4096_0_0_1_0_0
def rv73 (x : FVec Ideal S16384x2048 .bf16) (w : FVec Ideal S1x2048x12288 .f32) : FVec Ideal S4x8x4096x4096 .f32 := shapeCast _ (rv72 x w) shapeCasts_S4x8x1x4096x4096_S4x8x4096x4096
def rv74 (l : FVec Ideal S1x4x64 .f32) : FVec Ideal S4x8x4096x4096 .f32 := broadcastInDim S4x8x4096x4096 ![] bcast_S_S4x8x4096x4096 (rv31 l)
def rv75 (x : FVec Ideal S16384x2048 .bf16) (w : FVec Ideal S1x2048x12288 .f32) (l : FVec Ideal S1x4x64 .f32) : FVec Ideal S4x8x4096x4096 .f32 := mulf (rv74 l) (rv73 x w)
def rv76 (x : FVec Ideal S16384x2048 .bf16) (w : FVec Ideal S1x2048x12288 .f32) (l : FVec Ideal S1x4x64 .f32) : FVec Ideal S4x8x4096x4096 .f32 := subf (rv71 x w) (rv75 x w l)
def rv77 (x : FVec Ideal S16384x2048 .bf16) (w : FVec Ideal S1x2048x12288 .f32) (l : FVec Ideal S1x4x64 .f32) : FVec Ideal S4x8x128x4096 .f32 := Host.dotGeneral dot_S4x4096x8x128_S4x8x4096x4096_S4x8x128x4096_1_3_3_2_02_01 none (rv14 x w) (rv76 x w l)
def rv78 (x : FVec Ideal S16384x2048 .bf16) (w : FVec Ideal S1x2048x12288 .f32) (l : FVec Ideal S1x4x64 .f32) : FVec Ideal S4x4096x8x128 .f32 := transpose S4x4096x8x128 [0, 3, 1, 2] (rv77 x w l) transposes_S4x8x128x4096_S4x4096x8x128_0_3_1_2
def rv79 (g : FVec Ideal S1x1024 .f32) : FVec Ideal S1024 .f32 := shapeCast _ g shapeCasts_S1x1024_S1024
def rv80 (g : FVec Ideal S1x1024 .f32) : FVec Ideal S8x128 .f32 := shapeCast _ (rv79 g) shapeCasts_S1024_S8x128
def rv81 (x : FVec Ideal S16384x2048 .bf16) (w : FVec Ideal S1x2048x12288 .f32) (l : FVec Ideal S1x4x64 .f32) : FVec Ideal S4x4096x8x128 .f32 := mulf (rv78 x w l) (rv78 x w l)
def rcst_10  : FVec Ideal S_ .f32 := constant (F := Ideal) S_ .f32 0x00000000#32
def rv82 (x : FVec Ideal S16384x2048 .bf16) (w : FVec Ideal S1x2048x12288 .f32) (l : FVec Ideal S1x4x64 .f32) : FVec Ideal S4x4096x8 .f32 := Host.reduceAdd (rv81 x w l) rcst_10 reducesTo_S4x4096x8x128_S4x4096x8_d3 h_S_
def rv83 (x : FVec Ideal S16384x2048 .bf16) (w : FVec Ideal S1x2048x12288 .f32) (l : FVec Ideal S1x4x64 .f32) : FVec Ideal S4x4096x8x1 .f32 := broadcastInDim S4x4096x8x1 ![0, 1, 2] bcast_S4x4096x8_S4x4096x8x1_0_1_2 (rv82 x w l)
def rcst_11  : FVec Ideal S_ .f32 := constant (F := Ideal) S_ .f32 0x43000000#32
def rv84  : FVec Ideal S4x4096x8x1 .f32 := broadcastInDim S4x4096x8x1 ![] bcast_S_S4x4096x8x1 rcst_11
def rv85 (x : FVec Ideal S16384x2048 .bf16) (w : FVec Ideal S1x2048x12288 .f32) (l : FVec Ideal S1x4x64 .f32) : FVec Ideal S4x4096x8x1 .f32 := Host.divf (rv83 x w l) rv84
def rcst_12  : FVec Ideal S_ .f32 := constant (F := Ideal) S_ .f32 0x358637BD#32
def rv86  : FVec Ideal S4x4096x8x1 .f32 := broadcastInDim S4x4096x8x1 ![] bcast_S_S4x4096x8x1 rcst_12
def rv87 (x : FVec Ideal S16384x2048 .bf16) (w : FVec Ideal S1x2048x12288 .f32) (l : FVec Ideal S1x4x64 .f32) : FVec Ideal S4x4096x8x1 .f32 := addf (rv85 x w l) rv86
def rv88 (x : FVec Ideal S16384x2048 .bf16) (w : FVec Ideal S1x2048x12288 .f32) (l : FVec Ideal S1x4x64 .f32) : FVec Ideal S4x4096x8x1 .f32 := Host.rsqrt (rv87 x w l)
def rv89 (x : FVec Ideal S16384x2048 .bf16) (w : FVec Ideal S1x2048x12288 .f32) (l : FVec Ideal S1x4x64 .f32) : FVec Ideal S4x4096x8x128 .f32 := broadcastInDim S4x4096x8x128 ![0, 1, 2, 3] bcast_S4x4096x8x1_S4x4096x8x128_0_1_2_3 (rv88 x w l)
def rv90 (x : FVec Ideal S16384x2048 .bf16) (w : FVec Ideal S1x2048x12288 .f32) (l : FVec Ideal S1x4x64 .f32) : FVec Ideal S4x4096x8x128 .f32 := mulf (rv78 x w l) (rv89 x w l)
def rv91 (g : FVec Ideal S1x1024 .f32) : FVec Ideal S1x1x8x128 .f32 := broadcastInDim S1x1x8x128 ![2, 3] bcast_S8x128_S1x1x8x128_2_3 (rv80 g)
def rv92 (g : FVec Ideal S1x1024 .f32) : FVec Ideal S4x4096x8x128 .f32 := broadcastInDim S4x4096x8x128 ![0, 1, 2, 3] bcast_S1x1x8x128_S4x4096x8x128_0_1_2_3 (rv91 g)
def rv93 (x : FVec Ideal S16384x2048 .bf16) (w : FVec Ideal S1x2048x12288 .f32) (l : FVec Ideal S1x4x64 .f32) (g : FVec Ideal S1x1024 .f32) : FVec Ideal S4x4096x8x128 .f32 := mulf (rv90 x w l) (rv92 g)
def rcst_13  : FVec Ideal S_ .f32 := constant (F := Ideal) S_ .f32 0x3F4CCCCD#32
def rv94  : FVec Ideal S4x4096x8x128 .f32 := broadcastInDim S4x4096x8x128 ![] bcast_S_S4x4096x8x128 rcst_13
def rv95 (x : FVec Ideal S16384x2048 .bf16) (w : FVec Ideal S1x2048x12288 .f32) (l : FVec Ideal S1x4x64 .f32) (g : FVec Ideal S1x1024 .f32) : FVec Ideal S4x4096x8x128 .f32 := mulf (rv93 x w l g) rv94
def rv96 (x : FVec Ideal S16384x2048 .bf16) (w : FVec Ideal S1x2048x12288 .f32) (l : FVec Ideal S1x4x64 .f32) (g : FVec Ideal S1x1024 .f32) : FVec Ideal S16384x1024 .f32 := shapeCast _ (rv95 x w l g) shapeCasts_S4x4096x8x128_S16384x1024
def rv97 (x : FVec Ideal S16384x2048 .bf16) (w : FVec Ideal S1x2048x12288 .f32) (l : FVec Ideal S1x4x64 .f32) (g : FVec Ideal S1x1024 .f32) : FVec Ideal S16384x1024 .bf16 := truncf .bf16 (rv96 x w l g) bitsLt_bf16_f32

end Cert.ReferenceIdeal.Value
-- ==== Proof.Ref.lean ====
module

public import proofs.«01_k».proof.Proof.Gen.ReferenceIdeal.Run
public import proofs.«01_k».proof.Proof.RefDefs
public import Idealize.ShloMosaic.Lib.Pointwise

/-!
# The reference's result, at an index

Stage by stage, then over the real projections: the same array as the kernel's.
-/

@[expose] public section

set_option maxRecDepth 16384

noncomputable section

namespace Cert.ReferenceIdeal.Value
open Cert.ReferenceIdeal Cert.ReferenceIdeal.Gen Idealize.ShloMosaic Cert.Math
open Cert.KernelIdeal.Gen (qOf kOf vOf resOf resArr resArr_at rowCol lamOf mix normed scores vals)

theorem rv92_apply (g : FVec Ideal S1x1024 .f32) (b : Fin 4) (t : Fin 4096) (h : Fin 8) (e : Fin 128) :
    rv92 g (ix4 b t h e) = g (ix2 0 ⟨h.val * 128 + e.val, by omega⟩) := by
  pointwise [rv92, rv91, rv80, rv79]

theorem rv78_apply (x : FVec Ideal S16384x2048 .bf16) (w : FVec Ideal S1x2048x12288 .f32) (l : FVec Ideal S1x4x64 .f32) (b : Fin 4) (t : Fin 4096) (h : Fin 8) (e : Fin 128) :
    rv78 x w l (ix4 b t h e) = rv77 x w l (ix4 b h e t) := by
  pointwise [rv78]

theorem rv89_apply (x : FVec Ideal S16384x2048 .bf16) (w : FVec Ideal S1x2048x12288 .f32) (l : FVec Ideal S1x4x64 .f32) (b : Fin 4) (t : Fin 4096) (h : Fin 8) (e : Fin 128) :
    rv89 x w l (ix4 b t h e) = Ideal.rsqrt (Ideal.div (∑ d : Fin 128, rv78 x w l (ix4 b t h d) * rv78 x w l (ix4 b t h d))
      (Ideal.ofBits .f32 0x43000000#32) + Ideal.ofBits .f32 0x358637BD#32) := by
  pointwise [rv89, rv88, rv87, rv86, rcst_12, rv85, rv84, rcst_11, rv83, rv82, rcst_10, rv81]

theorem rv95_apply (x : FVec Ideal S16384x2048 .bf16) (w : FVec Ideal S1x2048x12288 .f32) (l : FVec Ideal S1x4x64 .f32) (g : FVec Ideal S1x1024 .f32) (b : Fin 4) (t : Fin 4096) (h : Fin 8) (e : Fin 128) :
    rv95 x w l g (ix4 b t h e) = rv78 x w l (ix4 b t h e) * rv89 x w l (ix4 b t h e) * rv92 g (ix4 b t h e) * Ideal.ofBits .f32 0x3F4CCCCD#32 := by
  pointwise [rv95, rv94, rcst_13, rv93, rv90]

theorem rv97_apply (x : FVec Ideal S16384x2048 .bf16) (w : FVec Ideal S1x2048x12288 .f32) (l : FVec Ideal S1x4x64 .f32) (g : FVec Ideal S1x1024 .f32) (b : Fin 4) (t : Fin 4096) (h : Fin 8) (e : Fin 128) :
    rv97 x w l g (ix2 ⟨b.val * 4096 + t.val, by omega⟩ ⟨h.val * 128 + e.val, by omega⟩) = rv95 x w l g (ix4 b t h e) := by
  pointwise [rv97, rv96]

/-- Row `r` of the input times column `c` of the weight. -/
def proj (x : FVec Ideal S16384x2048 .bf16) (w : FVec Ideal S1x2048x12288 .f32) (r : Fin 16384) (c : Fin 12288) : EReal :=
  ∑ k : Fin 2048, x (ix2 r k) * w (ix3 0 k c)

theorem rv2_apply (x : FVec Ideal S16384x2048 .bf16) (w : FVec Ideal S1x2048x12288 .f32) (r : Fin 16384) (c : Fin 12288) :
    rv2 x w (ix2 r c) = proj x w r c := by
  unfold proj
  pointwise [rv2, rv1, rv0]

theorem rv31_apply (l : FVec Ideal S1x4x64 .f32) (j : S_.Idx) :
    rv31 l j = Ideal.exp (∑ d : Fin 64, l (ix3 0 0 d) * l (ix3 0 1 d)) - Ideal.exp (∑ d : Fin 64, l (ix3 0 2 d) * l (ix3 0 3 d)) + Ideal.ofBits .f32 0x3E4CCCCD#32 := by
  pointwise [rv31, rcst_1, rv30, rv29, rv22, rv28, rv27, rv26, rv25, rv24, rv23, rv21, rv20, rv19, rv18, rv17, rv16, rv15, rcst, rcst_0]

theorem rv58_apply (x : FVec Ideal S16384x2048 .bf16) (w : FVec Ideal S1x2048x12288 .f32) (b : Fin 4) (h : Fin 8) (c : Fin 2) (q k : Fin 4096) :
    rv58 x w (ix5 b h c q k) = (∑ d : Fin 64, rv2 x w (ix2 ⟨b.val * 4096 + q.val, by omega⟩ ⟨5120 + (h.val * 128 + c.val * 64 + d.val), by omega⟩)
        * rv2 x w (ix2 ⟨b.val * 4096 + k.val, by omega⟩ ⟨6144 + (h.val * 128 + c.val * 64 + d.val), by omega⟩)) * Ideal.ofBits .f32 0x3E000000#32
      - Ideal.pow (Ideal.ofBits .f32 0x40000000#32) (Ideal.div (Ideal.ofBits .f32 0xC1000000#32 * (1 + ((((BitVec.ofNat 32 h.val).toInt : ℝ)) : EReal))) (Ideal.ofBits .f32 0x41000000#32))
        * ((((IntOp.absi (IntOp.subi (BitVec.ofNat 32 q.val) (BitVec.ofNat 32 k.val))).toInt : ℝ)) : EReal) := by
  pointwise [rv58, rv44, rcst_6, rv43, rv42, rv12, rv13, rv8, rv9, rv57, rv56, rv55, rv54, rv53, rv52, rv51, rv50, rv49, rv48, rv47, rv46, rv45, rv41, rv40, rv39, rv38, rv37, rv36, rv35, rv34, rv33, rv32, rcst_2, rcst_3, rcst_4, rcst_5]
  rfl

/-- The maximum the reference takes off a row of scores. -/
def top (s : Fin 4096 → EReal) : EReal :=
  max (Ideal.ofBits .f32 0xFF800000#32) (Finset.univ.fold max (Ideal.ofBits .f32 0xFF800000#32) s)

theorem max_at {s : Shape} (a b : FVec Ideal s .f32) (j : s.Idx) : maximumf a b j = max (a j) (b j) := rfl
theorem sub_at {s : Shape} (a b : FVec Ideal s .f32) (j : s.Idx) : subf a b j = a j - b j := rfl
theorem mul_at {s : Shape} (a b : FVec Ideal s .f32) (j : s.Idx) : mulf a b j = a j * b j := rfl
theorem scalar_at {t : Shape} (h : S_.BroadcastsInDim t ![]) (z : FVec Ideal S_ .f32) (j : t.Idx) : broadcastInDim t ![] h z j = z ix0 :=
  congrArg z (funext fun a => a.elim0)

theorem rv59_apply (x : FVec Ideal S16384x2048 .bf16) (w : FVec Ideal S1x2048x12288 .f32) (b : Fin 4) (h : Fin 8) (c : Fin 2) (q : Fin 4096) :
    rv59 x w (ix4 b h c q) = Finset.univ.fold max (Ideal.ofBits .f32 0xFF800000#32) (fun k : Fin 4096 => rv58 x w (ix5 b h c q k)) := by
  unfold rv59
  generalize rv58 x w = s
  pointwise [rcst_7]
theorem rv60_apply (j : S4x8x2x4096.Idx) : rv60 j = Ideal.ofBits .f32 0xFF800000#32 := rfl
theorem rv61_apply (x : FVec Ideal S16384x2048 .bf16) (w : FVec Ideal S1x2048x12288 .f32) (b : Fin 4) (h : Fin 8) (c : Fin 2) (q : Fin 4096) :
    rv61 x w (ix4 b h c q) = top fun k => rv58 x w (ix5 b h c q k) := by
  unfold rv61 top
  rw [max_at, rv60_apply, rv59_apply]

theorem rv65_apply (x : FVec Ideal S16384x2048 .bf16) (w : FVec Ideal S1x2048x12288 .f32) (b : Fin 4) (h : Fin 8) (c : Fin 2) (q k : Fin 4096) :
    rv65 x w (ix5 b h c q k) = Ideal.exp (rv58 x w (ix5 b h c q k) - rv61 x w (ix4 b h c q)) := by
  pointwise [rv65, rv64, rv63, rv62]

theorem rv69_apply (x : FVec Ideal S16384x2048 .bf16) (w : FVec Ideal S1x2048x12288 .f32) (b : Fin 4) (h : Fin 8) (c : Fin 2) (q k : Fin 4096) :
    rv69 x w (ix5 b h c q k) = Ideal.div (rv65 x w (ix5 b h c q k)) (∑ j : Fin 4096, rv65 x w (ix5 b h c q j)) := by
  pointwise [rv69, rv68, rv67, rv66, rcst_9]

theorem rv70_apply (x : FVec Ideal S16384x2048 .bf16) (w : FVec Ideal S1x2048x12288 .f32) (b : Fin 4) (h : Fin 8) (q k : Fin 4096) : rv70 x w (ix5 b h 0 q k) = rv69 x w (ix5 b h 0 q k) := by
  pointwise [rv70]
theorem rv72_apply (x : FVec Ideal S16384x2048 .bf16) (w : FVec Ideal S1x2048x12288 .f32) (b : Fin 4) (h : Fin 8) (q k : Fin 4096) : rv72 x w (ix5 b h 0 q k) = rv69 x w (ix5 b h 1 q k) := by
  pointwise [rv72]
theorem rv71_apply (x : FVec Ideal S16384x2048 .bf16) (w : FVec Ideal S1x2048x12288 .f32) (b : Fin 4) (h : Fin 8) (q k : Fin 4096) : rv71 x w (ix4 b h q k) = rv70 x w (ix5 b h 0 q k) := by
  pointwise [rv71]
theorem rv73_apply (x : FVec Ideal S16384x2048 .bf16) (w : FVec Ideal S1x2048x12288 .f32) (b : Fin 4) (h : Fin 8) (q k : Fin 4096) : rv73 x w (ix4 b h q k) = rv72 x w (ix5 b h 0 q k) := by
  pointwise [rv73]
theorem rv74_apply (l : FVec Ideal S1x4x64 .f32) (j : S4x8x4096x4096.Idx) : rv74 l j = rv31 l ix0 := by
  unfold rv74
  exact scalar_at _ _ _
theorem rv76_apply (x : FVec Ideal S16384x2048 .bf16) (w : FVec Ideal S1x2048x12288 .f32) (l : FVec Ideal S1x4x64 .f32) (b : Fin 4) (h : Fin 8) (q k : Fin 4096) :
    rv76 x w l (ix4 b h q k) = rv69 x w (ix5 b h 0 q k) - rv31 l ix0 * rv69 x w (ix5 b h 1 q k) := by
  unfold rv76 rv75
  rw [sub_at, mul_at, rv74_apply, rv71_apply, rv73_apply, rv70_apply, rv72_apply]

theorem rv14_apply (x : FVec Ideal S16384x2048 .bf16) (w : FVec Ideal S1x2048x12288 .f32) (b : Fin 4) (k : Fin 4096) (h : Fin 8) (e : Fin 128) :
    rv14 x w (ix4 b k h e) = rv2 x w (ix2 ⟨b.val * 4096 + k.val, by omega⟩ ⟨7168 + (h.val * 128 + e.val), by omega⟩) := by
  pointwise [rv14, rv10]

theorem rv77_apply (x : FVec Ideal S16384x2048 .bf16) (w : FVec Ideal S1x2048x12288 .f32) (l : FVec Ideal S1x4x64 .f32) (b : Fin 4) (h : Fin 8) (e : Fin 128) (q : Fin 4096) :
    rv77 x w l (ix4 b h e q) = ∑ k : Fin 4096, rv14 x w (ix4 b k h e) * rv76 x w l (ix4 b h q k) := by
  pointwise [rv77]

/-! ## Over the real projections -/

section
variable (x : FVec Ideal S16384x2048 .bf16) (w : FVec Ideal S1x2048x12288 .f32) (l : FVec Ideal S1x4x64 .f32) (g : FVec Ideal S1x1024 .f32)
  (P : Fin 16384 → Fin 3072 → ℝ) (hP : ∀ r n, rowCol x w r n = (P r n : EReal))
include hP

/-- A projection the reference computes is the real one. -/
theorem rv2_real (r : Fin 16384) (n : Fin 12288) (r' : Fin 16384) (n' : Fin 3072) (hr : r.val = r'.val) (hn : n.val = 5120 + n'.val) :
    rv2 x w (ix2 r n) = (P r' n' : EReal) := by
  obtain rfl : r = r' := Fin.ext hr
  rw [rv2_apply, ← hP r n']
  unfold proj rowCol
  rw [show n = ⟨5120 + n'.val, by omega⟩ from Fin.ext hn]

theorem rv58_real (b : Fin 4) (h : Fin 8) (c : Fin 2) (q k : Fin 4096) :
    rv58 x w (ix5 b h c q k) = (score h.val c (qOf P b h q) (kOf P b h k) q.val k.val : EReal) := by
  rw [rv58_apply, slope_pow h.val h.isLt, dist_word _ _ q.isLt k.isLt, cons_eighth]
  have e : ∀ d : Fin 64, rv2 x w (ix2 ⟨b.val * 4096 + q.val, by omega⟩ ⟨5120 + (h.val * 128 + c.val * 64 + d.val), by omega⟩)
        * rv2 x w (ix2 ⟨b.val * 4096 + k.val, by omega⟩ ⟨6144 + (h.val * 128 + c.val * 64 + d.val), by omega⟩)
      = ((qOf P b h q ⟨64 * c.val + d.val, by omega⟩ * kOf P b h k ⟨64 * c.val + d.val, by omega⟩ : ℝ) : EReal) := fun d => by
    rw [EReal.coe_mul]
    unfold qOf kOf
    rw [rv2_real x w P hP _ _ ⟨4096 * b.val + q.val, by omega⟩ ⟨128 * h.val + (64 * c.val + d.val), by omega⟩ (by show b.val * 4096 + q.val = 4096 * b.val + q.val; omega)
      (by show 5120 + (h.val * 128 + c.val * 64 + d.val) = 5120 + (128 * h.val + (64 * c.val + d.val)); omega),
      rv2_real x w P hP _ _ ⟨4096 * b.val + k.val, by omega⟩ ⟨1024 + (128 * h.val + (64 * c.val + d.val)), by omega⟩ (by show b.val * 4096 + k.val = 4096 * b.val + k.val; omega)
      (by show 6144 + (h.val * 128 + c.val * 64 + d.val) = 5120 + (1024 + (128 * h.val + (64 * c.val + d.val))); omega)]
  rw [Finset.sum_congr rfl fun d _ => e d, coe_sum, ← EReal.coe_mul, ← EReal.coe_mul, ← EReal.coe_sub]
  rfl

theorem rv61_real (b : Fin 4) (h : Fin 8) (c : Fin 2) (q : Fin 4096) : ∃ r : ℝ, rv61 x w (ix4 b h c q) = (r : EReal) := by
  obtain ⟨r, hr⟩ := fold_max_real (Finset.univ : Finset (Fin 4096)) ⟨0, Finset.mem_univ _⟩ (Ideal.ofBits .f32 0xFF800000#32) (by rw [cons_ninf]; exact bot_ne_top)
    (fun k => rv58 x w (ix5 b h c q k)) (fun k => ⟨_, rv58_real x w P hP b h c q k⟩)
  refine ⟨r, ?_⟩
  rw [rv61_apply]
  unfold top
  rw [hr, cons_ninf]
  exact max_eq_right bot_le

theorem rv31_lam (j : S_.Idx) : rv31 l j = lamOf l := rv31_apply l j

/-- The difference of the two softmax averages. -/
theorem rv77_real (lam : ℝ) (hlam : lamOf l = (lam : EReal)) (b : Fin 4) (h : Fin 8) (e : Fin 128) (q : Fin 4096) :
    rv77 x w l (ix4 b h e q) = mix h.val (lamOf l) (qOf P b h q) (kOf P b h) (vOf P b h) q.val e := by
  rw [rv77_apply]
  have hv : ∀ k : Fin 4096, rv14 x w (ix4 b k h e) = (vOf P b h e k : EReal) := fun k => by
    rw [rv14_apply]
    exact rv2_real x w P hP _ _ _ _ (by show b.val * 4096 + k.val = 4096 * b.val + k.val; omega)
      (by show 7168 + (h.val * 128 + e.val) = 5120 + (2048 + (128 * h.val + e.val)); omega)
  have key := plain (s0 := fun k => rv58 x w (ix5 b h 0 q k)) (s1 := fun k => rv58 x w (ix5 b h 1 q k)) (v := fun k => rv14 x w (ix4 b k h e))
    (fun k => score h.val 0 (qOf P b h q) (kOf P b h k) q.val k.val) (fun k => score h.val 1 (qOf P b h q) (kOf P b h k) q.val k.val) (fun k => vOf P b h e k)
    (fun k => rv58_real x w P hP b h 0 q k) (fun k => rv58_real x w P hP b h 1 q k) hv (rv61 x w (ix4 b h 0 q)) (rv61 x w (ix4 b h 1 q)) lam
    (rv61_real x w P hP b h 0 q) (rv61_real x w P hP b h 1 q)
  have hs : ∀ k : Fin 4096, rv14 x w (ix4 b k h e) * rv76 x w l (ix4 b h q k)
      = rv14 x w (ix4 b k h e) * (Ideal.div (Ideal.exp (rv58 x w (ix5 b h 0 q k) - rv61 x w (ix4 b h 0 q))) (∑ j, Ideal.exp (rv58 x w (ix5 b h 0 q j) - rv61 x w (ix4 b h 0 q)))
        - (lam : EReal) * Ideal.div (Ideal.exp (rv58 x w (ix5 b h 1 q k) - rv61 x w (ix4 b h 1 q))) (∑ j, Ideal.exp (rv58 x w (ix5 b h 1 q j) - rv61 x w (ix4 b h 1 q)))) := fun k => by
    rw [rv76_apply, rv31_apply l ix0]
    rw [show Ideal.exp (∑ d : Fin 64, l (ix3 0 0 d) * l (ix3 0 1 d)) - Ideal.exp (∑ d : Fin 64, l (ix3 0 2 d) * l (ix3 0 3 d)) + Ideal.ofBits .f32 0x3E4CCCCD#32 = (lam : EReal) from hlam]
    rw [rv69_apply, rv69_apply]
    simp only [rv65_apply]
  rw [Finset.sum_congr rfl fun k _ => hs k]
  refine key.trans ?_
  unfold mix
  rw [hlam, ← EReal.coe_mul, ← EReal.coe_sub]
  rfl

/-- The reference's result is the kernel's array. -/
theorem ref_result (lam : ℝ) (hlam : lamOf l = (lam : EReal)) :
    rv97 x w l g = resArr P (lamOf l) (fun n => g (ix2 0 n)) := by
  funext y
  have hy0 : (y 0).val < 16384 := (y 0).isLt
  have hy1 : (y 1).val < 1024 := (y 1).isLt
  obtain ⟨b, hb⟩ : ∃ b : Fin 4, b.val = (y 0).val / 4096 := ⟨⟨(y 0).val / 4096, by omega⟩, rfl⟩
  obtain ⟨t, ht⟩ : ∃ t : Fin 4096, t.val = (y 0).val % 4096 := ⟨⟨(y 0).val % 4096, by omega⟩, rfl⟩
  obtain ⟨h, hh⟩ : ∃ h : Fin 8, h.val = (y 1).val / 128 := ⟨⟨(y 1).val / 128, by omega⟩, rfl⟩
  obtain ⟨e, he⟩ : ∃ e : Fin 128, e.val = (y 1).val % 128 := ⟨⟨(y 1).val % 128, by omega⟩, rfl⟩
  have hy : y = ix2 ⟨b.val * 4096 + t.val, by omega⟩ ⟨h.val * 128 + e.val, by omega⟩ := funext fun a => Fin.ext (by
    fin_cases a
    · show (y 0).val = b.val * 4096 + t.val; omega
    · show (y 1).val = h.val * 128 + e.val; omega)
  rw [resArr_at P (lamOf l) (fun n => g (ix2 0 n)) y b t h e (by omega) (by omega)]
  have hg : g (ix2 0 (y 1)) = g (ix2 0 ⟨h.val * 128 + e.val, by omega⟩) := congrArg g (congrArg (ix2 0) (Fin.ext (by show (y 1).val = h.val * 128 + e.val; omega)))
  show _ = resOf P (lamOf l) (g (ix2 0 (y 1))) b t h e
  rw [hg]
  refine (congrArg (rv97 x w l g) hy).trans ?_
  rw [rv97_apply, rv95_apply, rv89_apply, rv92_apply]
  simp only [rv78_apply, rv77_real x w l P hP lam hlam]
  rfl
end

theorem res_eq (m : (ℓ : Loc nD τ sig) → Buf (Elt Ideal) ℓ) (c : Dev nD) :
    res_main_v97 m c = rv97 (m ((c.tc : Thread nD τ).loc main_arg0)) (m ((c.tc : Thread nD τ).loc main_arg1)) (m ((c.tc : Thread nD τ).loc main_arg2)) (m ((c.tc : Thread nD τ).loc main_arg3)) := by
  unfold res_main_v97
  rfl

end Cert.ReferenceIdeal.Value
-- ==== Proof.Run.lean ====
module

public import proofs.«01_k».proof.Proof.Ref
public import proofs.«01_k».proof.Pre_finite

/-!
# The kernel's run with its result, and what the precondition says
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The kernel runs; its result is the last segment's, its arguments end unchanged and every counter is zero. -/
theorem run : θ_run defs (onTc (τ := τ) (main (F := Ideal))) ⟨m, fun _ => 0, ρ⟩ (fun r => (∀ c : Dev nD,
      r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v14 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end

/-! ## What the precondition says -/

/-- A value below infinity in magnitude is real. -/
theorem real_of_lt (x c : EReal) (hc : c = ⊤) (h : Ideal.cmp .olt (max x (-x)) c = 1#1) : ∃ r : ℝ, x = (r : EReal) := by
  subst hc
  induction x using EReal.rec with
  | bot => simp [Ideal.cmp] at h
  | top => simp [Ideal.cmp] at h
  | coe r => exact ⟨r, rfl⟩

theorem real_f32 {s : Shape} (x : FVec Ideal s .f32) (hb : (⟨0, ![]⟩ : Shape).BroadcastsInDim s ![])
    (h : cmpf .olt (Host.absf x) (broadcastInDim s ![] hb (constant (F := Ideal) ⟨0, ![]⟩ .f32 0x7F800000#32)) = fun _ => 1#1) (j : s.Idx) :
    ∃ r : ℝ, x j = (r : EReal) :=
  real_of_lt (x j) (Ideal.ofBits .f32 0x7F800000#32) (by simp [Ideal.ofBits, Ideal.ieee]) (congrFun h j)

theorem real_bf16 {s : Shape} (x : FVec Ideal s .bf16) (hb : (⟨0, ![]⟩ : Shape).BroadcastsInDim s ![])
    (h : cmpf .olt (Host.absf x) (broadcastInDim s ![] hb (constant (F := Ideal) ⟨0, ![]⟩ .bf16 0x7F80#16)) = fun _ => 1#1) (j : s.Idx) :
    ∃ r : ℝ, x j = (r : EReal) :=
  real_of_lt (x j) (Ideal.ofBits .bf16 0x7F80#16) (by simp [Ideal.ofBits, Ideal.ieee]) (congrFun h j)

/-- Finite activations and weight columns make real projections. -/
theorem proj_real (x : Vec Ideal S16384x2048 .bf16) (w : Vec Ideal S1x2048x12288 .f32) (hx : ∀ j, ∃ r : ℝ, x j = (r : EReal))
    (hw : ∀ (k : Fin 2048) (n : Fin 3072), ∃ r : ℝ, w (ix3 0 k ⟨5120 + n.val, by omega⟩) = (r : EReal)) :
    ∃ P : Fin 16384 → Fin 3072 → ℝ, ∀ r n, rowCol x w r n = (P r n : EReal) := by
  choose fx hfx using hx
  choose fw hfw using hw
  refine ⟨fun r n => ∑ k : Fin 2048, fx (ix2 r k) * fw k n, fun r n => ?_⟩
  unfold rowCol
  simp only [hfx, hfw]
  rw [← Cert.Math.coe_sum]
  exact Finset.sum_congr rfl fun k _ => (EReal.coe_mul _ _).symm

/-- Finite differential-attention vectors make a real coefficient. -/
theorem lam_real (l : Vec Ideal S1x4x64 .f32) (hl : ∀ j, ∃ r : ℝ, l j = (r : EReal)) : ∃ lam : ℝ, lamOf l = (lam : EReal) := by
  choose fl hfl using hl
  obtain ⟨z, hz⟩ := Cert.Math.cons_lam
  have e : ∀ a b : Fin 4, Ideal.exp (∑ d : Fin 64, l (ix3 0 a d) * l (ix3 0 b d)) = (Real.exp (∑ d : Fin 64, fl (ix3 0 a d) * fl (ix3 0 b d)) : EReal) := fun a b => by
    simp only [hfl]
    rw [show (∑ d : Fin 64, (fl (ix3 0 a d) : EReal) * (fl (ix3 0 b d) : EReal)) = ((∑ d : Fin 64, fl (ix3 0 a d) * fl (ix3 0 b d) : ℝ) : EReal) from by
      rw [← Cert.Math.coe_sum]
      exact Finset.sum_congr rfl fun k _ => (EReal.coe_mul _ _).symm]
    rfl
  refine ⟨Real.exp (∑ d : Fin 64, fl (ix3 0 0 d) * fl (ix3 0 1 d)) - Real.exp (∑ d : Fin 64, fl (ix3 0 2 d) * fl (ix3 0 3 d)) + z, ?_⟩
  unfold lamOf
  rw [e 0 1, e 2 3, hz, EReal.coe_add, EReal.coe_sub]

end Cert.KernelIdeal.Gen

end
-- ==== Proof.Arrays2.lean ====
module

public import proofs.«01_k».proof.Proof.Gen.Kernel2Ideal.Frame
public import Idealize.ShloMosaic.Lib.Pointwise
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.StableHlo.ReadAt

/-!
# The second program's arrays, at an index
-/

@[expose] public section

set_option maxRecDepth 16384

noncomputable section

namespace Cert.Kernel2Ideal.Gen
open Idealize.ShloMosaic Idealize.ShloMosaic.TcCoe Cert.Kernel2Ideal
open Idealize.ShloMosaic.Pipeline (Dat Cfg Window BodyObligation cellOf)

theorem ix0_0 : ∀ t : Fin cfg0.N, win0_0.index t = ![(grid0.coords t 0).val, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![(grid0.coords t 0).val, 0] := (by decide +kernel : ∀ t : Fin grid0.N, _)
theorem ix1_0 : ∀ t : Fin cfg1.N, win1_0.index t = ![(grid1.coords t 0).val, 0] := (by decide +kernel : ∀ t : Fin grid1.N, _)
theorem ix1_1 : ∀ t : Fin cfg1.N, win1_1.index t = ![0, (grid1.coords t 1).val] := (by decide +kernel : ∀ t : Fin grid1.N, _)
theorem ix1_2 : ∀ t : Fin cfg1.N, win1_2.index t = ![(grid1.coords t 0).val, (grid1.coords t 1).val] := (by decide +kernel : ∀ t : Fin grid1.N, _)
theorem ix2_0 : ∀ t : Fin cfg2.N, win2_0.index t = ![(grid2.coords t 0).val, 0] := (by decide +kernel : ∀ t : Fin grid2.N, _)
theorem ix2_1 : ∀ t : Fin cfg2.N, win2_1.index t = ![0, (grid2.coords t 1).val] := (by decide +kernel : ∀ t : Fin grid2.N, _)
theorem ix2_2 : ∀ t : Fin cfg2.N, win2_2.index t = ![(grid2.coords t 0).val, (grid2.coords t 1).val] := (by decide +kernel : ∀ t : Fin grid2.N, _)

/-- One over the root of a row's mean square. -/
def rowScale (x : Fin 2048 → EReal) : EReal :=
  Ideal.rsqrt (Ideal.div (∑ k : Fin 2048, x k * x k) (Ideal.ofBits .f32 0x45000000#32) + Ideal.ofBits .f32 0x358637BD#32)

/-- The rows normalised and weighted. -/
def G0 (x : Vec Ideal S16384x2048 .f32) (g : Vec Ideal S1x2048 .f32) : Vec Ideal S16384x2048 .bf16 := fun y =>
  x (ix2 (y 0) (y 1)) * rowScale (fun k => x (ix2 (y 0) k)) * g (ix2 0 (y 1))
/-- The rows times the natural columns. -/
def G1 (x : Vec Ideal S16384x2048 .bf16) (w : Vec Ideal S2048x5120 .bf16) : Vec Ideal S16384x5120 .f32 := fun y =>
  ∑ k : Fin 2048, x (ix2 (y 0) k) * w (ix2 k (y 1))
/-- The logistic of the rows times the gate's columns. -/
def G2 (x : Vec Ideal S16384x2048 .bf16) (w : Vec Ideal S2048x4096 .bf16) : Vec Ideal S16384x4096 .bf16 := fun y =>
  Ideal.logistic (∑ k : Fin 2048, x (ix2 (y 0) k) * w (ix2 k (y 1)))

theorem pay0_at (x : Vec Ideal S512x2048 .f32) (g : Vec Ideal S1x2048 .f32) (y : S512x2048.Idx) :
    k0_pay1 x g y = x (ix2 (y 0) (y 1)) * rowScale (fun k => x (ix2 (y 0) k)) * g (ix2 0 (y 1)) := by
  unfold rowScale
  pointwise [k0_pay1]

theorem pay2_at (x : Vec Ideal S1024x2048 .bf16) (w : Vec Ideal S2048x1024 .bf16) (y : S1024x1024.Idx) :
    k2_pay1 x w y = Ideal.logistic (∑ k : Fin 2048, x (ix2 (y 0) k) * w (ix2 k (y 1))) := by
  pointwise [k2_pay1]

variable (V : (c : Dev nD) → (b : Ref sig .tc) → Buf (Elt Ideal) ((c : Thread nD τ).loc b))

theorem arr0 (c : Dev nD) : (dat0 V c).arrAt 2 cfg0.N = G0 (V c main_arg0) (V c main_v6) := by
  refine (dat0 V c).arrAt_eq_of_covers 2 _ (by decide +kernel) fun t hf y => ?_
  blk_simp
  rw [after0_2]
  frame_out
  refine (pay0_at _ _ y).trans ?_
  unfold G0 rowScale
  blk_point [iblk0, ix0_0 t, ix0_1 t, ix0_2 t]
  blk_point [ix0_0 t, ix0_2 t]

theorem arr1 (c : Dev nD) : (dat1 V c).arrAt 2 cfg1.N = G1 (V c main_v7) (V c main_v2) := by
  refine (dat1 V c).arrAt_eq_of_covers 2 _ (by decide +kernel) fun t hf y => ?_
  blk_simp
  rw [after1_2]
  frame_out
  pointwise [k1_pay1, G1]
  blk_point [iblk1, ix1_0 t, ix1_1 t, ix1_2 t]

theorem arr2 (c : Dev nD) : (dat2 V c).arrAt 2 cfg2.N = G2 (V c main_v7) (V c main_v4) := by
  refine (dat2 V c).arrAt_eq_of_covers 2 _ (by decide +kernel) fun t hf y => ?_
  blk_simp
  rw [after2_2]
  frame_out
  refine (pay2_at _ _ y).trans ?_
  unfold G2
  blk_point [iblk2, ix2_0 t, ix2_1 t, ix2_2 t]

variable (m : (ℓ : Loc nD τ sig) → Buf (Elt Ideal) ℓ) (ρ : Dev nD → PrngReg)
theorem v2_eq (c : Dev nD) (k : Fin 2048) (r : Fin 5120) : (W1 m ρ c (Proc.devRef .tc main_v2) : Vec Ideal S2048x5120 .bf16) (ix2 k r)
    = (m ((c : Thread nD τ).loc main_arg2) : Vec Ideal S1x2048x12288 .f32) (ix3 0 k ⟨r.val, by omega⟩) := by
  unfold W1
  after_reads_at
theorem v4_eq (c : Dev nD) (k : Fin 2048) (r : Fin 4096) : (W1 m ρ c (Proc.devRef .tc main_v4) : Vec Ideal S2048x4096 .bf16) (ix2 k r)
    = (m ((c : Thread nD τ).loc main_arg2) : Vec Ideal S1x2048x12288 .f32) (ix3 0 k ⟨8192 + r.val, by omega⟩) := by
  unfold W1
  after_reads_at
theorem v6_eq (c : Dev nD) (r : Fin 2048) : (W1 m ρ c (Proc.devRef .tc main_v6) : Vec Ideal S1x2048 .f32) (ix2 0 r)
    = (m ((c : Thread nD τ).loc main_arg1) : Vec Ideal S1x2048 .f32) (ix2 0 r) := by
  unfold W1
  after_reads_at

end Cert.Kernel2Ideal.Gen
-- ==== Proof.Ref2.lean ====
module

public import proofs.«01_k».proof.Proof.Gen.Reference2Ideal.Run
public import proofs.«01_k».proof.Proof.Arrays2
public import Idealize.ShloMosaic.Lib.Pointwise

/-!
# The second reference's results, at an index
-/

@[expose] public section

set_option maxRecDepth 16384

noncomputable section

namespace Cert.Reference2Ideal.Value
open Cert.Reference2Ideal Cert.Reference2Ideal.Gen Idealize.ShloMosaic
open Cert.Kernel2Ideal.Gen (rowScale)

/-- The sums of squares of the rows. -/
def sq (x : FVec Ideal S16384x2048 .f32) : FVec Ideal S16384 .f32 :=
  Host.reduceAdd (mulf x x) (constant S_ .f32 0x00000000#32) reducesTo_S16384x2048_S16384_d1 h_S_
/-- One over the root of the rows' mean squares. -/
def sc (x : FVec Ideal S16384x2048 .f32) : FVec Ideal S16384x1 .f32 :=
  Host.rsqrt (addf (Host.divf (broadcastInDim S16384x1 ![0] bcast_S16384_S16384x1_0 (sq x)) (broadcastInDim S16384x1 ![] bcast_S_S16384x1 (constant S_ .f32 0x45000000#32))) (broadcastInDim S16384x1 ![] bcast_S_S16384x1 (constant S_ .f32 0x358637BD#32)))
/-- The normalised rows. -/
def xn (x : FVec Ideal S16384x2048 .f32) (g : FVec Ideal S1x2048 .f32) : FVec Ideal S16384x2048 .f32 :=
  mulf (mulf x (broadcastInDim S16384x2048 ![0, 1] bcast_S16384x1_S16384x2048_0_1 (sc x))) (broadcastInDim S16384x2048 ![0, 1] bcast_S1x2048_S16384x2048_0_1 (broadcastInDim S1x2048 ![1] bcast_S2048_S1x2048_1 (shapeCast _ g shapeCasts_S1x2048_S2048)))
/-- The projection. -/
def zz (h : FVec Ideal S16384x2048 .f32) (w : FVec Ideal S1x2048x12288 .f32) : FVec Ideal S16384x12288 .f32 :=
  Host.dotGeneral dot_S16384x2048_S2048x12288_S16384x12288_1_0_0_1_n_n none h (shapeCast _ w shapeCasts_S1x2048x12288_S2048x12288)
/-- The gate. -/
def gg (z : FVec Ideal S16384x12288 .f32) : FVec Ideal S16384x4096 .bf16 :=
  truncf .bf16 (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 8192] z slices_S16384x12288_S16384x4096_0_8192))))) bitsLt_bf16_f32

/-- The first columns. -/
def lo (z : FVec Ideal S16384x12288 .f32) : FVec Ideal S16384x5120 .f32 := extractStridedSlice S16384x5120 ![0, 0] z slices_S16384x12288_S16384x5120_0_0

theorem sq_at (x : FVec Ideal S16384x2048 .f32) (r : Fin 16384) : sq x (ix1 r) = ∑ k : Fin 2048, x (ix2 r k) * x (ix2 r k) := by
  pointwise [sq]
theorem sc_at (x : FVec Ideal S16384x2048 .f32) (r : Fin 16384) : sc x (ix2 r 0) = rowScale (fun k => x (ix2 r k)) := by
  unfold rowScale
  rw [← sq_at]
  unfold sc
  generalize sq x = v
  pointwise []
theorem xn_at (x : FVec Ideal S16384x2048 .f32) (g : FVec Ideal S1x2048 .f32) (r : Fin 16384) (k : Fin 2048) :
    xn x g (ix2 r k) = x (ix2 r k) * rowScale (fun k => x (ix2 r k)) * g (ix2 0 k) := by
  rw [← sc_at]
  unfold xn
  generalize sc x = v
  pointwise []
theorem zz_at (h : FVec Ideal S16384x2048 .f32) (w : FVec Ideal S1x2048x12288 .f32) (r : Fin 16384) (n : Fin 12288) :
    zz h w (ix2 r n) = ∑ k : Fin 2048, h (ix2 r k) * w (ix3 0 k n) := by
  pointwise [zz]
theorem one_bits : Ideal.ofBits .f32 0x3F800000#32 = 1 := by
  simp [Ideal.ofBits, Ideal.ieee, -EReal.coe_mul]; norm_num
theorem gg_at (z : FVec Ideal S16384x12288 .f32) (r : Fin 16384) (n : Fin 4096) :
    gg z (ix2 r n) = Ideal.logistic (z (ix2 r ⟨8192 + n.val, by omega⟩)) := by
  unfold Ideal.logistic
  rw [← one_bits]
  pointwise [gg]
theorem lo_at (z : FVec Ideal S16384x12288 .f32) (r : Fin 16384) (n : Fin 5120) : lo z (ix2 r n) = z (ix2 r ⟨n.val, by omega⟩) := by
  pointwise [lo]

end Cert.Reference2Ideal.Value
-- ==== Proof.Value2.lean ====
module

public import proofs.«01_k».proof.Proof.Ref2

/-!
# The second program's results are the reference's
-/

@[expose] public section

set_option maxRecDepth 16384

noncomputable section

namespace Cert.Kernel2Ideal.Gen
open Idealize.ShloMosaic Idealize.ShloMosaic.TcCoe Cert.Kernel2Ideal
open Cert.Reference2Ideal.Value (xn zz gg lo xn_at zz_at gg_at lo_at)

variable (m : (ℓ : Loc nD τ sig) → Buf (Elt Ideal) ℓ) (ρ : Dev nD → PrngReg) (c : Dev nD)

/-- The normalised rows the first call leaves are the reference's. -/
theorem rows_at (r : Fin 16384) (k : Fin 2048) : (W2 m ρ c (Proc.devRef .tc main_v7) : Vec Ideal S16384x2048 .bf16) (ix2 r k)
    = xn (m ((c : Thread nD τ).loc main_arg0)) (m ((c : Thread nD τ).loc main_arg1)) (ix2 r k) := by
  refine (congrFun ((W2_arr m ρ c 2).trans (arr0 (V1 m ρ) c)) (ix2 r k)).trans ?_
  rw [xn_at]
  have hW := W1_args m ρ c main_arg0 (by decide)
  exact congrArg₂ (fun u v : EReal => u * v) (congrArg₂ (fun u v : EReal => u * v) (congrFun hW (ix2 r k))
    (congrArg rowScale (funext fun k => congrFun hW (ix2 r k)))) (v6_eq m ρ c k)

/-- The natural columns. -/
theorem nat_at (r : Fin 16384) (n : Fin 5120) : (W4 m ρ c (Proc.devRef .tc main_v8) : Vec Ideal S16384x5120 .f32) (ix2 r n)
    = zz (xn (m ((c : Thread nD τ).loc main_arg0)) (m ((c : Thread nD τ).loc main_arg1))) (m ((c : Thread nD τ).loc main_arg2)) (ix2 r ⟨n.val, by omega⟩) := by
  refine (congrFun ((W4_of_ne m ρ c main_v8 (by decide)).trans ((W3_arr m ρ c 2).trans (arr1 (V2 m ρ) c))) (ix2 r n)).trans ?_
  rw [zz_at]
  refine @Finset.sum_congr _ EReal _ _ _ _ _ rfl fun k _ => congrArg₂ (fun u v : EReal => u * v) (rows_at m ρ c r k) ?_
  refine (congrFun (W2_of_ne m ρ c main_v2 (by decide)) (ix2 k n)).trans ?_
  exact v2_eq m ρ c k n

/-- The gate's columns. -/
theorem gate_at (r : Fin 16384) (n : Fin 4096) : (W4 m ρ c (Proc.devRef .tc main_v9) : Vec Ideal S16384x4096 .bf16) (ix2 r n)
    = gg (zz (xn (m ((c : Thread nD τ).loc main_arg0)) (m ((c : Thread nD τ).loc main_arg1))) (m ((c : Thread nD τ).loc main_arg2))) (ix2 r n) := by
  refine (congrFun ((W4_arr m ρ c 2).trans (arr2 (V3 m ρ) c)) (ix2 r n)).trans ?_
  rw [gg_at, zz_at]
  refine congrArg Ideal.logistic (@Finset.sum_congr _ EReal _ _ _ _ _ rfl fun k _ => congrArg₂ (fun u v : EReal => u * v) ?_ ?_)
  · refine (congrFun (W3_of m ρ c main_v7 (by decide)) (ix2 r k)).trans ?_
    exact rows_at m ρ c r k
  · refine (congrFun ((W3_of_ne m ρ c main_v4 (by decide)).trans (W2_of_ne m ρ c main_v4 (by decide))) (ix2 k n)).trans ?_
    exact v4_eq m ρ c k n

/-- The first result array is the reference's. -/
theorem result0 : (W4 m ρ c (Proc.devRef .tc main_v8) : Vec Ideal S16384x5120 .f32)
    = lo (zz (xn (m ((c : Thread nD τ).loc main_arg0)) (m ((c : Thread nD τ).loc main_arg1))) (m ((c : Thread nD τ).loc main_arg2))) := by
  refine funext fun y => ?_
  obtain ⟨r, n, rfl⟩ : ∃ (r : Fin 16384) (n : Fin 5120), y = ix2 r n := ⟨y 0, y 1, funext fun a => by fin_cases a <;> rfl⟩
  rw [lo_at]
  exact nat_at m ρ c r n

/-- The second result array is the reference's. -/
theorem result1 : (W4 m ρ c (Proc.devRef .tc main_v9) : Vec Ideal S16384x4096 .bf16)
    = gg (zz (xn (m ((c : Thread nD τ).loc main_arg0)) (m ((c : Thread nD τ).loc main_arg1))) (m ((c : Thread nD τ).loc main_arg2))) := by
  refine funext fun y => ?_
  obtain ⟨r, n, rfl⟩ : ∃ (r : Fin 16384) (n : Fin 4096), y = ix2 r n := ⟨y 0, y 1, funext fun a => by fin_cases a <;> rfl⟩
  exact gate_at m ρ c r n

end Cert.Kernel2Ideal.Gen
-- ==== Proof.Merge3.lean ====
module

public import proofs.«01_k».proof.Proof.Gen.Kernel3Ideal.Frame
public import Idealize.ShloMosaic.Lib.Pointwise
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.StableHlo.ReadAt

/-!
# What the third program's merge stores, at an index
-/

@[expose] public section

set_option maxRecDepth 16384

noncomputable section

namespace Cert.Kernel3Ideal.Gen
open Idealize.ShloMosaic Idealize.ShloMosaic.TcCoe Cert.Kernel3Ideal
open Idealize.ShloMosaic.Pipeline (Dat Cfg Window BodyObligation cellOf)

theorem hzz2 : (![0, 0] : Fin 2 → ℕ) = fun _ => 0 := funext fun a => by fin_cases a <;> rfl

theorem ix0_0 : ∀ t : Fin cfg0.N, win0_0.index t = ![(grid0.coords t 0).val, 0] := (by decide +kernel : ∀ t : Fin grid0.N, _)
theorem ix0_1 : ∀ t : Fin cfg0.N, win0_1.index t = ![(grid0.coords t 0).val, 0] := (by decide +kernel : ∀ t : Fin grid0.N, _)
theorem ix0_2 : ∀ t : Fin cfg0.N, win0_2.index t = ![(grid0.coords t 0).val, 4] := (by decide +kernel : ∀ t : Fin grid0.N, _)
theorem ix0_3 : ∀ t : Fin cfg0.N, win0_3.index t = ![0, 0] := (by decide +kernel : ∀ t : Fin grid0.N, _)
theorem ix0_4 : ∀ t : Fin cfg0.N, win0_4.index t = ![(grid0.coords t 0).val, 0] := (by decide +kernel : ∀ t : Fin grid0.N, _)
theorem ix0_5 : ∀ t : Fin cfg0.N, win0_5.index t = ![(grid0.coords t 0).val, 0] := (by decide +kernel : ∀ t : Fin grid0.N, _)
theorem ix0_6 : ∀ t : Fin cfg0.N, win0_6.index t = ![0, 0] := (by decide +kernel : ∀ t : Fin grid0.N, _)
theorem ix0_7 : ∀ t : Fin cfg0.N, win0_7.index t = ![0, 0] := (by decide +kernel : ∀ t : Fin grid0.N, _)
theorem ix0_8 : ∀ t : Fin cfg0.N, win0_8.index t = ![(grid0.coords t 0).val, 0] := (by decide +kernel : ∀ t : Fin grid0.N, _)
theorem ix1_0 : ∀ t : Fin cfg1.N, win1_0.index t = ![(grid1.coords t 0).val, 0] := (by decide +kernel : ∀ t : Fin grid1.N, _)
theorem ix1_1 : ∀ t : Fin cfg1.N, win1_1.index t = ![0, (grid1.coords t 1).val] := (by decide +kernel : ∀ t : Fin grid1.N, _)
theorem ix1_2 : ∀ t : Fin cfg1.N, win1_2.index t = ![(grid1.coords t 0).val, (grid1.coords t 1).val] := (by decide +kernel : ∀ t : Fin grid1.N, _)
theorem ix1_3 : ∀ t : Fin cfg1.N, win1_3.index t = ![(grid1.coords t 0).val, (grid1.coords t 1).val] := (by decide +kernel : ∀ t : Fin grid1.N, _)

/-- One over the root of a head's mean square. -/
def headScale (s : Fin 128 → EReal) : EReal :=
  Ideal.rsqrt (Ideal.div (∑ k : Fin 128, s k * s k) (Ideal.ofBits .f32 0x43000000#32) + Ideal.ofBits .f32 0x358637BD#32)

/-- A lane of a head, normalised over the head's lanes. -/
def headNorm (s : Fin 1024 → EReal) (h : Fin 8) (d : Fin 128) : EReal :=
  s ⟨128 * h.val + d.val, by omega⟩ * headScale (fun k => s ⟨128 * h.val + k.val, by omega⟩)

/-- One entry of the merged rows: the two branches' projections, weighted by the gates. -/
def mergeAt (s ga : Fin 1024 → EReal) (ag : Fin 1024 → EReal) (wa : Fin 1024 → EReal) (on wb : Fin 1024 → EReal) (g0 g1 : EReal) : EReal :=
  g0 * (∑ k : Fin 1024, headNorm s ⟨k.val / 128, by omega⟩ ⟨k.val % 128, by omega⟩ * ag k * (ga k * Ideal.logistic (ga k)) * wa k)
    + g1 * (∑ k : Fin 1024, on k * wb k)

theorem p2_at (a b : Vec Ideal S512x1024 .f32) (y : S512x1024.Idx) : k0_pay2 a b y = a (ix2 (y 0) (y 1)) + b (ix2 (y 0) (y 1)) := by
  pointwise [k0_pay2]

theorem p3_at (a b : Vec Ideal S512x1024 .f32) (r : Fin 512) (d : Fin 128) : k0_pay3 a b (ix2 r d) = headNorm (fun k => k0_pay2 a b (ix2 r k)) 0 d := by
  unfold headNorm headScale
  unfold k0_pay3
  generalize k0_pay2 a b = v
  pointwise []
theorem p4_at (a b : Vec Ideal S512x1024 .f32) (r : Fin 512) (d : Fin 128) : k0_pay4 a b (ix2 r d) = headNorm (fun k => k0_pay2 a b (ix2 r k)) 1 d := by
  unfold headNorm headScale
  unfold k0_pay4
  generalize k0_pay2 a b = v
  pointwise []
theorem p5_at (a b : Vec Ideal S512x1024 .f32) (r : Fin 512) (d : Fin 128) : k0_pay5 a b (ix2 r d) = headNorm (fun k => k0_pay2 a b (ix2 r k)) 2 d := by
  unfold headNorm headScale
  unfold k0_pay5
  generalize k0_pay2 a b = v
  pointwise []
theorem p9_at (a b : Vec Ideal S512x1024 .f32) (r : Fin 512) (d : Fin 128) :
    k0_pay9 (k0_pay6 a b) (k0_pay7 a b) (k0_pay8 (F := Ideal)) (ix2 r d) = headNorm (fun k => k0_pay2 a b (ix2 r k)) 3 d := by
  unfold headNorm headScale
  unfold k0_pay9 k0_pay7 k0_pay6 k0_pay8
  generalize k0_pay2 a b = v
  pointwise []
theorem p10_at (v : FVec Ideal S512x1024 .f32) (r : Fin 512) (d : Fin 128) : k0_pay10 v (ix2 r d) = headNorm (fun k => v (ix2 r k)) 4 d := by
  unfold headNorm headScale
  pointwise [k0_pay10]
theorem p11_at (v : FVec Ideal S512x1024 .f32) (r : Fin 512) (d : Fin 128) : k0_pay11 v (ix2 r d) = headNorm (fun k => v (ix2 r k)) 5 d := by
  unfold headNorm headScale
  pointwise [k0_pay11]
theorem p12_at (v : FVec Ideal S512x1024 .f32) (r : Fin 512) (d : Fin 128) : k0_pay12 v (ix2 r d) = headNorm (fun k => v (ix2 r k)) 6 d := by
  unfold headNorm headScale
  pointwise [k0_pay12]
theorem p13_at (v : FVec Ideal S512x1024 .f32) (r : Fin 512) (d : Fin 128) : k0_pay13 v (ix2 r d) = headNorm (fun k => v (ix2 r k)) 7 d := by
  unfold headNorm headScale
  pointwise [k0_pay13]

set_option maxHeartbeats 2000000 in
/-- Eight heads side by side, at an index. -/
theorem heads_at (p0 p1 p2 p3 p4 p5 p6 p7 : FVec Ideal S512x128 .f32) (f : Fin 512 → Fin 8 → Fin 128 → EReal)
    (h0 : ∀ r d, p0 (ix2 r d) = f r 0 d) (h1 : ∀ r d, p1 (ix2 r d) = f r 1 d) (h2 : ∀ r d, p2 (ix2 r d) = f r 2 d) (h3 : ∀ r d, p3 (ix2 r d) = f r 3 d)
    (h4 : ∀ r d, p4 (ix2 r d) = f r 4 d) (h5 : ∀ r d, p5 (ix2 r d) = f r 5 d) (h6 : ∀ r d, p6 (ix2 r d) = f r 6 d) (h7 : ∀ r d, p7 (ix2 r d) = f r 7 d)
    (r : Fin 512) (h : Fin 8) (d : Fin 128) :
    concatenate S512x1024 1 [⟨S512x128, p0⟩, ⟨S512x128, p1⟩, ⟨S512x128, p2⟩, ⟨S512x128, p3⟩, ⟨S512x128, p4⟩, ⟨S512x128, p5⟩, ⟨S512x128, p6⟩, ⟨S512x128, p7⟩]
      concatenates_S512x128_S512x128_S512x128_S512x128_S512x128_S512x128_S512x128_S512x128_S512x1024_d1 (ix2 r ⟨128 * h.val + d.val, by omega⟩)
      = f r h d := by
  have hd := d.isLt
  fin_cases h
  · refine Eq.trans ?_ (h0 r d); pointwise [] <;> (repeat' split) <;> first | (exfalso; omega) | (congr 2; exact Fin.ext (by dsimp only; omega)) | rfl
  · refine Eq.trans ?_ (h1 r d); pointwise [] <;> (repeat' split) <;> first | (exfalso; omega) | (congr 2; exact Fin.ext (by dsimp only; omega)) | rfl
  · refine Eq.trans ?_ (h2 r d); pointwise [] <;> (repeat' split) <;> first | (exfalso; omega) | (congr 2; exact Fin.ext (by dsimp only; omega)) | rfl
  · refine Eq.trans ?_ (h3 r d); pointwise [] <;> (repeat' split) <;> first | (exfalso; omega) | (congr 2; exact Fin.ext (by dsimp only; omega)) | rfl
  · refine Eq.trans ?_ (h4 r d); pointwise [] <;> (repeat' split) <;> first | (exfalso; omega) | (congr 2; exact Fin.ext (by dsimp only; omega)) | rfl
  · refine Eq.trans ?_ (h5 r d); pointwise [] <;> (repeat' split) <;> first | (exfalso; omega) | (congr 2; exact Fin.ext (by dsimp only; omega)) | rfl
  · refine Eq.trans ?_ (h6 r d); pointwise [] <;> (repeat' split) <;> first | (exfalso; omega) | (congr 2; exact Fin.ext (by dsimp only; omega)) | rfl
  · refine Eq.trans ?_ (h7 r d); pointwise [] <;> (repeat' split) <;> first | (exfalso; omega) | (congr 2; exact Fin.ext (by dsimp only; omega)) | rfl

theorem pay1_at (p0 p1 p2 p3 p4 p5 p6 p7 : FVec Ideal S512x128 .f32) (f : Fin 512 → Fin 8 → Fin 128 → EReal)
    (h0 : ∀ r d, p0 (ix2 r d) = f r 0 d) (h1 : ∀ r d, p1 (ix2 r d) = f r 1 d) (h2 : ∀ r d, p2 (ix2 r d) = f r 2 d) (h3 : ∀ r d, p3 (ix2 r d) = f r 3 d)
    (h4 : ∀ r d, p4 (ix2 r d) = f r 4 d) (h5 : ∀ r d, p5 (ix2 r d) = f r 5 d) (h6 : ∀ r d, p6 (ix2 r d) = f r 6 d) (h7 : ∀ r d, p7 (ix2 r d) = f r 7 d)
    (ga : Vec Ideal S512x1024 .f32) (ag : Vec Ideal S1x1024 .f32) (wa : Vec Ideal S1024x2048 .bf16) (on : Vec Ideal S512x1024 .bf16)
    (wb : Vec Ideal S1024x2048 .bf16) (gate : Vec Ideal S512x4096 .bf16) (r : Fin 512) (n : Fin 2048) :
    k0_pay1 p0 p1 p2 p3 p4 p5 p6 p7 ga ag wa on wb gate (ix2 r n)
      = gate (ix2 r ⟨n.val, by omega⟩) * (∑ k : Fin 1024, f r ⟨k.val / 128, by omega⟩ ⟨k.val % 128, by omega⟩ * ag (ix2 0 k) * (ga (ix2 r k) * Ideal.logistic (ga (ix2 r k))) * wa (ix2 k n))
        + gate (ix2 r ⟨2048 + n.val, by omega⟩) * (∑ k : Fin 1024, on (ix2 r k) * wb (ix2 k n)) := by
  have hc : ∀ (r : Fin 512) (k : Fin 1024), (concatenate S512x1024 1 [⟨S512x128, p0⟩, ⟨S512x128, p1⟩, ⟨S512x128, p2⟩, ⟨S512x128, p3⟩, ⟨S512x128, p4⟩, ⟨S512x128, p5⟩, ⟨S512x128, p6⟩, ⟨S512x128, p7⟩]
      concatenates_S512x128_S512x128_S512x128_S512x128_S512x128_S512x128_S512x128_S512x128_S512x1024_d1 : FVec Ideal S512x1024 .f32) (ix2 r k) = f r ⟨k.val / 128, by omega⟩ ⟨k.val % 128, by omega⟩ := fun r k => by
    refine Eq.trans ?_ (heads_at p0 p1 p2 p3 p4 p5 p6 p7 f h0 h1 h2 h3 h4 h5 h6 h7 r ⟨k.val / 128, by omega⟩ ⟨k.val % 128, by omega⟩)
    exact congrArg _ (congrArg (ix2 r) (Fin.ext (by show k.val = 128 * (k.val / 128) + k.val % 128; omega)))
  unfold k0_pay1
  generalize concatenate S512x1024 1 [⟨S512x128, p0⟩, ⟨S512x128, p1⟩, ⟨S512x128, p2⟩, ⟨S512x128, p3⟩, ⟨S512x128, p4⟩, ⟨S512x128, p5⟩, ⟨S512x128, p6⟩, ⟨S512x128, p7⟩]
      concatenates_S512x128_S512x128_S512x128_S512x128_S512x128_S512x128_S512x128_S512x128_S512x1024_d1 = v at hc ⊢
  pointwise [hc]

end Cert.Kernel3Ideal.Gen
-- ==== Proof.Arrays3.lean ====
module

public import proofs.«01_k».proof.Proof.Merge3
public import Idealize.ShloMosaic.Lib.Pointwise
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.StableHlo.ReadAt

/-!
# The third program's arrays, at an index
-/

@[expose] public section

set_option maxRecDepth 16384

noncomputable section

namespace Cert.Kernel3Ideal.Gen
open Idealize.ShloMosaic Idealize.ShloMosaic.TcCoe Cert.Kernel3Ideal
open Idealize.ShloMosaic.Pipeline (Dat Cfg Window BodyObligation cellOf)

theorem pay14_eq (x0 x1 x2 : Vec Ideal S512x1024 .f32) (x3 : Vec Ideal S1x1024 .f32) (x4 : Vec Ideal S512x1024 .bf16) (x5 : Vec Ideal S512x4096 .bf16)
    (x6 x7 : Vec Ideal S1024x2048 .bf16) : k0_pay14 x0 x1 x2 x3 x4 x5 x6 x7 = k0_pay2 x0 x1 := by
  unfold k0_pay14
  rw [View.ld_unit_zero hzz2, View.ld_unit_zero hzz2]

theorem out0_ix (x0 x1 x2 : Vec Ideal S512x1024 .f32) (x3 : Vec Ideal S1x1024 .f32) (x4 : Vec Ideal S512x1024 .bf16) (x5 : Vec Ideal S512x4096 .bf16)
    (x6 x7 : Vec Ideal S1024x2048 .bf16) (r : Fin 512) (n : Fin 2048) :
    out0_8 x0 x1 x2 x3 x4 x5 x6 x7 (ix2 r n) = mergeAt (fun k => x0 (ix2 r k) + x1 (ix2 r k)) (fun k => x2 (ix2 r k)) (fun k => x3 (ix2 0 k))
      (fun k => x6 (ix2 k n)) (fun k => x4 (ix2 r k)) (fun k => x7 (ix2 k n)) (x5 (ix2 r ⟨n.val, by omega⟩)) (x5 (ix2 r ⟨2048 + n.val, by omega⟩)) := by
  unfold out0_8
  frame_out
  rw [pay14_eq]
  refine (pay1_at _ _ _ _ _ _ _ _ (fun r h d => headNorm (fun k => k0_pay2 x0 x1 (ix2 r k)) h d)
    (p3_at x0 x1) (p4_at x0 x1) (p5_at x0 x1) (p9_at x0 x1) (p10_at (k0_pay2 x0 x1)) (p11_at (k0_pay2 x0 x1)) (p12_at (k0_pay2 x0 x1)) (p13_at (k0_pay2 x0 x1))
    _ _ _ _ _ _ r n).trans ?_
  have e : (fun k => k0_pay2 x0 x1 (ix2 r k)) = fun k => x0 (ix2 r k) + x1 (ix2 r k) := funext fun k => p2_at x0 x1 (ix2 r k)
  rw [← e]
  unfold mergeAt
  rfl

theorem out0_at (x0 x1 x2 : Vec Ideal S512x1024 .f32) (x3 : Vec Ideal S1x1024 .f32) (x4 : Vec Ideal S512x1024 .bf16) (x5 : Vec Ideal S512x4096 .bf16)
    (x6 x7 : Vec Ideal S1024x2048 .bf16) (y : S512x2048.Idx) :
    out0_8 x0 x1 x2 x3 x4 x5 x6 x7 y = mergeAt (fun k => x0 (ix2 (y 0) k) + x1 (ix2 (y 0) k)) (fun k => x2 (ix2 (y 0) k)) (fun k => x3 (ix2 0 k))
      (fun k => x6 (ix2 k (y 1))) (fun k => x4 (ix2 (y 0) k)) (fun k => x7 (ix2 k (y 1))) (x5 (ix2 (y 0) ⟨(y 1).val, by idx_bounds y; omega⟩))
      (x5 (ix2 (y 0) ⟨2048 + (y 1).val, by idx_bounds y; omega⟩)) := by
  have hy : y = ix2 (y 0) (y 1) := funext fun a => by fin_cases a <;> rfl
  exact (congrArg (out0_8 x0 x1 x2 x3 x4 x5 x6 x7) hy).trans (out0_ix x0 x1 x2 x3 x4 x5 x6 x7 (y 0) (y 1))

/-- The merged rows. -/
def G0 (a b : Vec Ideal S16384x1024 .f32) (z : Vec Ideal S16384x5120 .f32) (ag : Vec Ideal S1x1024 .f32) (on : Vec Ideal S16384x1024 .bf16)
    (gate : Vec Ideal S16384x4096 .bf16) (wa wb : Vec Ideal S1024x2048 .bf16) : Vec Ideal S16384x2048 .bf16 := fun y =>
  mergeAt (fun k => a (ix2 (y 0) k) + b (ix2 (y 0) k)) (fun k => z (ix2 (y 0) ⟨4096 + k.val, by omega⟩)) (fun k => ag (ix2 0 k))
    (fun k => wa (ix2 k (y 1))) (fun k => on (ix2 (y 0) k)) (fun k => wb (ix2 k (y 1))) (gate (ix2 (y 0) ⟨(y 1).val, by idx_bounds y; omega⟩))
    (gate (ix2 (y 0) ⟨2048 + (y 1).val, by idx_bounds y; omega⟩))
/-- The input's rows plus the merged rows times the output columns. -/
def G1 (a : Vec Ideal S16384x2048 .bf16) (w : Vec Ideal S2048x2048 .bf16) (x : Vec Ideal S16384x2048 .f32) : Vec Ideal S16384x2048 .f32 := fun y =>
  x (ix2 (y 0) (y 1)) + ∑ k : Fin 2048, a (ix2 (y 0) k) * w (ix2 k (y 1))

theorem mergeAt_congr {s s' ga ga' ag ag' wa wa' on on' wb wb' : Fin 1024 → EReal} {g0 g0' g1 g1' : EReal}
    (h0 : s = s') (h1 : ga = ga') (h2 : ag = ag') (h3 : wa = wa') (h4 : on = on') (h5 : wb = wb') (h6 : g0 = g0') (h7 : g1 = g1') :
    mergeAt s ga ag wa on wb g0 g1 = mergeAt s' ga' ag' wa' on' wb' g0' g1' := by
  subst h0 h1 h2 h3 h4 h5 h6 h7; rfl

variable (V : (c : Dev nD) → (b : Ref sig .tc) → Buf (Elt Ideal) ((c : Thread nD τ).loc b))

theorem arr0 (c : Dev nD) : (dat0 V c).arrAt 8 cfg0.N = G0 (V c main_arg0) (V c main_arg1) (V c main_arg2) (V c main_v5) (V c main_arg4) (V c main_arg5) (V c main_v1) (V c main_v3) := by
  refine (dat0 V c).arrAt_eq_of_covers 8 _ (by decide +kernel) fun t hf y => ?_
  blk_simp
  rw [after0_8]
  refine (out0_at _ _ _ _ _ _ _ _ y).trans ?_
  unfold G0
  blk_simp [ix0_8 t]
  refine mergeAt_congr (funext fun k => ?_) (funext fun k => ?_) (funext fun k => ?_) (funext fun k => ?_) (funext fun k => ?_) (funext fun k => ?_) ?_ ?_
  · blk_point [iblk0, ix0_0 t, ix0_1 t, ix0_8 t]
  · blk_point [iblk0, ix0_2 t, ix0_8 t]
  · blk_point [iblk0, ix0_3 t, ix0_8 t]
  · blk_point [iblk0, ix0_6 t, ix0_8 t]
  · blk_point [iblk0, ix0_4 t, ix0_8 t]
  · blk_point [iblk0, ix0_7 t, ix0_8 t]
  · blk_point [iblk0, ix0_5 t, ix0_8 t]
  · blk_point [iblk0, ix0_5 t, ix0_8 t]

theorem arr1 (c : Dev nD) : (dat1 V c).arrAt 3 cfg1.N = G1 (V c main_v6) (V c main_v8) (V c main_arg9) := by
  refine (dat1 V c).arrAt_eq_of_covers 3 _ (by decide +kernel) fun t hf y => ?_
  blk_simp
  rw [after1_3]
  frame_out
  pointwise [k1_pay1, G1]
  blk_point [iblk1, ix1_0 t, ix1_1 t, ix1_2 t, ix1_3 t]

variable (m : (ℓ : Loc nD τ sig) → Buf (Elt Ideal) ℓ) (ρ : Dev nD → PrngReg)
theorem v1_eq (c : Dev nD) (k : Fin 1024) (r : Fin 2048) : (W1 m ρ c (Proc.devRef .tc main_v1) : Vec Ideal S1024x2048 .bf16) (ix2 k r)
    = (m ((c : Thread nD τ).loc main_arg6) : Vec Ideal S1x1024x2048 .f32) (ix3 0 k r) := by
  unfold W1
  after_reads_at
theorem v3_eq (c : Dev nD) (k : Fin 1024) (r : Fin 2048) : (W1 m ρ c (Proc.devRef .tc main_v3) : Vec Ideal S1024x2048 .bf16) (ix2 k r)
    = (m ((c : Thread nD τ).loc main_arg7) : Vec Ideal S1x1024x2048 .f32) (ix3 0 k r) := by
  unfold W1
  after_reads_at
theorem v5_eq (c : Dev nD) (r : Fin 1024) : (W1 m ρ c (Proc.devRef .tc main_v5) : Vec Ideal S1x1024 .f32) (ix2 0 r)
    = (m ((c : Thread nD τ).loc main_arg3) : Vec Ideal S1x1024 .f32) (ix2 0 r) := by
  unfold W1
  after_reads_at
theorem v8_eq (c : Dev nD) (k r : Fin 2048) : (W3 m ρ c (Proc.devRef .tc main_v8) : Vec Ideal S2048x2048 .bf16) (ix2 k r)
    = (m ((c : Thread nD τ).loc main_arg8) : Vec Ideal S1x2048x2048 .f32) (ix3 0 k r) := by
  rw [← W2_args m ρ c main_arg8 (by decide)]
  unfold W3
  after_reads_at

end Cert.Kernel3Ideal.Gen
-- ==== Proof.Ref3.lean ====
module

public import proofs.«01_k».proof.Proof.Gen.Reference3Ideal.Run
public import proofs.«01_k».proof.Proof.Arrays3
public import Idealize.ShloMosaic.Lib.Pointwise

/-!
# The third reference's result, at an index
-/

@[expose] public section

set_option maxRecDepth 16384

noncomputable section

namespace Cert.Reference3Ideal.Value
open Cert.Reference3Ideal Cert.Reference3Ideal.Gen Idealize.ShloMosaic
open Cert.Kernel3Ideal.Gen (headScale headNorm mergeAt)

/-- The two directions' outputs added, by head. -/
def hs (a b : FVec Ideal S16384x1024 .f32) : FVec Ideal S16384x8x128 .f32 := shapeCast _ (addf a b) shapeCasts_S16384x1024_S16384x8x128
/-- The heads' sums of squares. -/
def sq (v : FVec Ideal S16384x8x128 .f32) : FVec Ideal S16384x8 .f32 :=
  Host.reduceAdd (mulf v v) (constant S_ .f32 0x00000000#32) reducesTo_S16384x8x128_S16384x8_d2 h_S_
/-- One over the root of the heads' mean squares. -/
def sc (v : FVec Ideal S16384x8x128 .f32) : FVec Ideal S16384x8x1 .f32 :=
  Host.rsqrt (addf (Host.divf (broadcastInDim S16384x8x1 ![0, 1] bcast_S16384x8_S16384x8x1_0_1 (sq v)) (broadcastInDim S16384x8x1 ![] bcast_S_S16384x8x1 (constant S_ .f32 0x43000000#32))) (broadcastInDim S16384x8x1 ![] bcast_S_S16384x8x1 (constant S_ .f32 0x358637BD#32)))
/-- The normalised heads. -/
def nm (v : FVec Ideal S16384x8x128 .f32) (g : FVec Ideal S1x1024 .f32) : FVec Ideal S16384x8x128 .f32 :=
  mulf (mulf v (broadcastInDim S16384x8x128 ![0, 1, 2] bcast_S16384x8x1_S16384x8x128_0_1_2 (sc v))) (broadcastInDim S16384x8x128 ![0, 1, 2] bcast_S1x8x128_S16384x8x128_0_1_2 (broadcastInDim S1x8x128 ![1, 2] bcast_S8x128_S1x8x128_1_2 (shapeCast _ (shapeCast _ g shapeCasts_S1x1024_S1024) shapeCasts_S1024_S8x128)))
/-- The gate of the heads, by head. -/
def gt (z : FVec Ideal S16384x5120 .f32) : FVec Ideal S16384x8x128 .f32 :=
  shapeCast _ (extractStridedSlice S16384x1024 ![0, 4096] z slices_S16384x5120_S16384x1024_0_4096) shapeCasts_S16384x1024_S16384x8x128
/-- A vector times its own logistic. -/
def silu (v : FVec Ideal S16384x8x128 .f32) : FVec Ideal S16384x8x128 .f32 :=
  mulf v (Host.divf (broadcastInDim S16384x8x128 ![] bcast_S_S16384x8x128 (constant S_ .f32 0x3F800000#32)) (addf (broadcastInDim S16384x8x128 ![] bcast_S_S16384x8x128 (constant S_ .f32 0x3F800000#32)) (Host.exp (Host.negf v))))
/-- The heads laid side by side again. -/
def flat (v : FVec Ideal S16384x8x128 .f32) : FVec Ideal S16384x1024 .f32 := shapeCast _ v shapeCasts_S16384x8x128_S16384x1024
/-- A branch's projection. -/
def pr (v : FVec Ideal S16384x1024 .f32) (w : FVec Ideal S1x1024x2048 .f32) : FVec Ideal S16384x2048 .f32 :=
  Host.dotGeneral dot_S16384x1024_S1024x2048_S16384x2048_1_0_0_1_n_n none v (shapeCast _ w shapeCasts_S1x1024x2048_S1024x2048)
/-- The gates, by branch. -/
def gts (g : FVec Ideal S16384x4096 .bf16) : FVec Ideal S16384x2x2048 .f32 := shapeCast _ (extf .f32 g bitsLt_bf16_f32) shapeCasts_S16384x4096_S16384x2x2048
/-- The gated sum of the branches. -/
def mx (g : FVec Ideal S16384x2x2048 .f32) (a b : FVec Ideal S16384x2048 .f32) : FVec Ideal S16384x2048 .f32 :=
  addf (mulf (shapeCast _ (extractStridedSlice S16384x1x2048 ![0, 0, 0] g slices_S16384x2x2048_S16384x1x2048_0_0_0) shapeCasts_S16384x1x2048_S16384x2048) a)
    (mulf (shapeCast _ (extractStridedSlice S16384x1x2048 ![0, 1, 0] g slices_S16384x2x2048_S16384x1x2048_0_1_0) shapeCasts_S16384x1x2048_S16384x2048) b)
/-- The output projection and the residual. -/
def fin (x v : FVec Ideal S16384x2048 .f32) (w : FVec Ideal S1x2048x2048 .f32) : FVec Ideal S16384x2048 .f32 :=
  addf x (Host.dotGeneral dot_S16384x2048_S2048x2048_S16384x2048_1_0_0_1_n_n none v (shapeCast _ w shapeCasts_S1x2048x2048_S2048x2048))
/-- The branches' gated sum, of the arguments. -/
def mixed (a b : FVec Ideal S16384x1024 .f32) (z : FVec Ideal S16384x5120 .f32) (ag : FVec Ideal S1x1024 .f32) (on : FVec Ideal S16384x1024 .bf16)
    (g : FVec Ideal S16384x4096 .bf16) (wa wb : FVec Ideal S1x1024x2048 .f32) : FVec Ideal S16384x2048 .f32 :=
  mx (gts g) (pr (flat (mulf (nm (hs a b) ag) (silu (gt z)))) wa) (pr (extf .f32 on bitsLt_bf16_f32) wb)
/-- The whole result. -/
def res (a b : FVec Ideal S16384x1024 .f32) (z : FVec Ideal S16384x5120 .f32) (ag : FVec Ideal S1x1024 .f32) (on : FVec Ideal S16384x1024 .bf16)
    (g : FVec Ideal S16384x4096 .bf16) (wa wb : FVec Ideal S1x1024x2048 .f32) (wo : FVec Ideal S1x2048x2048 .f32) (x : FVec Ideal S16384x2048 .f32) : FVec Ideal S16384x2048 .f32 :=
  fin x (mixed a b z ag on g wa wb) wo

theorem hs_at (a b : FVec Ideal S16384x1024 .f32) (r : Fin 16384) (h : Fin 8) (d : Fin 128) :
    hs a b (ix3 r h d) = a (ix2 r ⟨128 * h.val + d.val, by omega⟩) + b (ix2 r ⟨128 * h.val + d.val, by omega⟩) := by
  pointwise [hs]
  simp only [Nat.mul_comm]
theorem sq_at (v : FVec Ideal S16384x8x128 .f32) (r : Fin 16384) (h : Fin 8) : sq v (ix2 r h) = ∑ k : Fin 128, v (ix3 r h k) * v (ix3 r h k) := by
  pointwise [sq]
theorem sc_at (v : FVec Ideal S16384x8x128 .f32) (r : Fin 16384) (h : Fin 8) : sc v (ix3 r h 0) = headScale (fun k => v (ix3 r h k)) := by
  unfold headScale
  rw [← sq_at]
  unfold sc
  generalize sq v = u
  pointwise []
theorem nm_at (v : FVec Ideal S16384x8x128 .f32) (g : FVec Ideal S1x1024 .f32) (r : Fin 16384) (h : Fin 8) (d : Fin 128) :
    nm v g (ix3 r h d) = v (ix3 r h d) * headScale (fun k => v (ix3 r h k)) * g (ix2 0 ⟨128 * h.val + d.val, by omega⟩) := by
  rw [← sc_at]
  unfold nm
  generalize sc v = u
  pointwise []
  simp only [Nat.mul_comm]
theorem gt_at (z : FVec Ideal S16384x5120 .f32) (r : Fin 16384) (h : Fin 8) (d : Fin 128) :
    gt z (ix3 r h d) = z (ix2 r ⟨4096 + (128 * h.val + d.val), by omega⟩) := by
  pointwise [gt]
  simp only [Nat.mul_comm]
theorem one_bits : Ideal.ofBits .f32 0x3F800000#32 = 1 := by
  simp [Ideal.ofBits, Ideal.ieee, -EReal.coe_mul]; norm_num
theorem silu_at (v : FVec Ideal S16384x8x128 .f32) (y : S16384x8x128.Idx) : silu v y = v y * Ideal.logistic (v y) := by
  unfold Ideal.logistic
  rw [← one_bits]
  pointwise [silu]
theorem flat_at (v : FVec Ideal S16384x8x128 .f32) (r : Fin 16384) (k : Fin 1024) :
    flat v (ix2 r k) = v (ix3 r ⟨k.val / 128, by omega⟩ ⟨k.val % 128, by omega⟩) := by
  pointwise [flat]
theorem pr_at (v : FVec Ideal S16384x1024 .f32) (w : FVec Ideal S1x1024x2048 .f32) (r : Fin 16384) (n : Fin 2048) :
    pr v w (ix2 r n) = ∑ k : Fin 1024, v (ix2 r k) * w (ix3 0 k n) := by
  pointwise [pr]
theorem gts_at (g : FVec Ideal S16384x4096 .bf16) (r : Fin 16384) (i : Fin 2) (n : Fin 2048) :
    gts g (ix3 r i n) = g (ix2 r ⟨2048 * i.val + n.val, by omega⟩) := by
  pointwise [gts]
  simp only [Nat.mul_comm]
theorem mx_at (g : FVec Ideal S16384x2x2048 .f32) (a b : FVec Ideal S16384x2048 .f32) (r : Fin 16384) (n : Fin 2048) :
    mx g a b (ix2 r n) = g (ix3 r 0 n) * a (ix2 r n) + g (ix3 r 1 n) * b (ix2 r n) := by
  pointwise [mx]
theorem fin_at (x v : FVec Ideal S16384x2048 .f32) (w : FVec Ideal S1x2048x2048 .f32) (r : Fin 16384) (n : Fin 2048) :
    fin x v w (ix2 r n) = x (ix2 r n) + ∑ k : Fin 2048, v (ix2 r k) * w (ix3 0 k n) := by
  pointwise [fin]
theorem mulf_at (a b : FVec Ideal S16384x8x128 .f32) (y : S16384x8x128.Idx) : mulf a b y = a y * b y := rfl

theorem mixed_at (a b : FVec Ideal S16384x1024 .f32) (z : FVec Ideal S16384x5120 .f32) (ag : FVec Ideal S1x1024 .f32) (on : FVec Ideal S16384x1024 .bf16)
    (g : FVec Ideal S16384x4096 .bf16) (wa wb : FVec Ideal S1x1024x2048 .f32) (r : Fin 16384) (n : Fin 2048) :
    mixed a b z ag on g wa wb (ix2 r n)
      = mergeAt (fun k => a (ix2 r k) + b (ix2 r k)) (fun k => z (ix2 r ⟨4096 + k.val, by omega⟩)) (fun k => ag (ix2 0 k))
          (fun k => wa (ix3 0 k n)) (fun k => on (ix2 r k)) (fun k => wb (ix3 0 k n)) (g (ix2 r ⟨n.val, by omega⟩)) (g (ix2 r ⟨2048 + n.val, by omega⟩)) := by
  unfold mixed
  rw [mx_at, gts_at, gts_at, pr_at, pr_at]
  unfold mergeAt
  have e0 : (⟨2048 * (0 : Fin 2).val + n.val, by have := n.isLt; show 2048 * 0 + n.val < 4096; omega⟩ : Fin 4096) = ⟨n.val, by omega⟩ := Fin.ext (by show 2048 * 0 + n.val = n.val; omega)
  refine congrArg₂ (fun u v : EReal => u + v) (congrArg₂ (fun u v : EReal => u * v) (congrArg g (congrArg (ix2 r) e0)) (Finset.sum_congr rfl fun k _ => ?_)) rfl
  rw [flat_at, mulf_at, nm_at, silu_at, gt_at]
  have ek : (⟨128 * (k.val / 128) + k.val % 128, by omega⟩ : Fin 1024) = k := Fin.ext (by show 128 * (k.val / 128) + k.val % 128 = k.val; omega)
  have ez : (⟨4096 + (128 * (k.val / 128) + k.val % 128), by omega⟩ : Fin 5120) = ⟨4096 + k.val, by omega⟩ := Fin.ext (by show 4096 + (128 * (k.val / 128) + k.val % 128) = 4096 + k.val; omega)
  have eh : (fun d : Fin 128 => hs a b (ix3 r ⟨k.val / 128, by omega⟩ d)) = fun d => a (ix2 r ⟨128 * (k.val / 128) + d.val, by omega⟩) + b (ix2 r ⟨128 * (k.val / 128) + d.val, by omega⟩) := funext fun d => hs_at a b r _ d
  unfold headNorm
  rw [eh, hs_at]
  refine congrArg (fun u : EReal => u * wa (ix3 0 k n)) (congrArg₂ (fun u v : EReal => u * v) (congrArg₂ (fun u v : EReal => u * v) rfl (congrArg ag (congrArg (ix2 0) ek))) ?_)
  exact congrArg (fun i => z (ix2 r i) * Ideal.logistic (z (ix2 r i))) ez

end Cert.Reference3Ideal.Value
-- ==== Proof.Value3.lean ====
module

public import proofs.«01_k».proof.Proof.Ref3

/-!
# The third program's result is the reference's
-/

@[expose] public section

set_option maxRecDepth 16384

noncomputable section

namespace Cert.Kernel3Ideal.Gen
open Idealize.ShloMosaic Idealize.ShloMosaic.TcCoe Cert.Kernel3Ideal
open Cert.Reference3Ideal.Value (res mixed fin_at mixed_at)

variable (m : (ℓ : Loc nD τ sig) → Buf (Elt Ideal) ℓ) (ρ : Dev nD → PrngReg) (c : Dev nD)

/-- The merged rows the first call leaves. -/
theorem merged_at (r : Fin 16384) (n : Fin 2048) : (W2 m ρ c (Proc.devRef .tc main_v6) : Vec Ideal S16384x2048 .bf16) (ix2 r n)
    = mixed (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (ix2 r n) := by
  rw [mixed_at]
  refine (congrFun ((W2_arr m ρ c 8).trans (arr0 (V1 m ρ) c)) (ix2 r n)).trans ?_
  refine mergeAt_congr (funext fun k => ?_) (funext fun k => ?_) (funext fun k => ?_) (funext fun k => ?_) (funext fun k => ?_) (funext fun k => ?_) ?_ ?_
  · exact congrArg₂ (fun u v : EReal => u + v) (congrFun (W1_args m ρ c main_arg0 (by decide)) (ix2 r k)) (congrFun (W1_args m ρ c main_arg1 (by decide)) (ix2 r k))
  · exact congrFun (W1_args m ρ c main_arg2 (by decide)) (ix2 r ⟨4096 + k.val, by omega⟩)
  · exact v5_eq m ρ c k
  · exact v1_eq m ρ c k n
  · exact congrFun (W1_args m ρ c main_arg4 (by decide)) (ix2 r k)
  · exact v3_eq m ρ c k n
  · exact congrFun (W1_args m ρ c main_arg5 (by decide)) (ix2 r ⟨n.val, by omega⟩)
  · exact congrFun (W1_args m ρ c main_arg5 (by decide)) (ix2 r ⟨2048 + n.val, by omega⟩)

/-- The result array is the reference's. -/
theorem result : (W4 m ρ c (Proc.devRef .tc main_v9) : Vec Ideal S16384x2048 .f32)
    = res (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  refine funext fun y => ?_
  obtain ⟨r, n, rfl⟩ : ∃ (r : Fin 16384) (n : Fin 2048), y = ix2 r n := ⟨y 0, y 1, funext fun a => by fin_cases a <;> rfl⟩
  refine (congrFun ((W4_arr m ρ c 3).trans (arr1 (V3 m ρ) c)) (ix2 r n)).trans ?_
  unfold res
  rw [fin_at]
  refine congrArg₂ (fun u v : EReal => u + v) (congrFun (W3_args m ρ c main_arg9 (by decide)) (ix2 r n)) (@Finset.sum_congr _ EReal _ _ _ _ _ rfl fun k _ => congrArg₂ (fun u v : EReal => u * v) ?_ ?_)
  · refine (congrFun (W3_of m ρ c main_v6 (by decide)) (ix2 r k)).trans ?_
    exact merged_at m ρ c r k
  · exact v8_eq m ρ c k n

end Cert.Kernel3Ideal.Gen
-- ==== Proof.Run2.lean ====
module

public import proofs.«01_k».proof.Proof.Gen.Kernel2Ideal.Frame
public import Idealize.ShloMosaic.Lib.Pointwise

/-!
# The second program's run with its results
-/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The kernel runs; its results are the last segment's, its arguments end unchanged and every counter is zero. -/
theorem run : θ_run defs (onTc (τ := τ) (main (F := Ideal))) ⟨m, fun _ => 0, ρ⟩ (fun r => (∀ c : Dev nD,
      r.2.mem ((c.tc : Thread nD τ).loc main_v8) = W4 m ρ c (Proc.devRef .tc main_v8)
      ∧ r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v8 (by decide)),
       h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

end Cert.Kernel2Ideal.Gen
-- ==== Proof.Run3.lean ====
module

public import proofs.«01_k».proof.Proof.Gen.Kernel3Ideal.Frame
public import Idealize.ShloMosaic.Lib.Pointwise

/-!
# The third program's run with its result
-/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The kernel runs; its results are the last segment's, its arguments end unchanged and every counter is zero. -/
theorem run : θ_run defs (onTc (τ := τ) (main (F := Ideal))) ⟨m, fun _ => 0, ρ⟩ (fun r => (∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩), funext fun g => hz g (.inr (no_unscoped g.2))⟩)

end Cert.Kernel3Ideal.Gen
-- ==== Proof.Ref4.lean ====
module

public import proofs.«01_k».proof.Proof.Gen.Reference4Ideal.Run
public import proofs.«01_k».proof.Proof.Arrays2
public import Idealize.ShloMosaic.Lib.Pointwise

/-!
# The fourth reference's result, at an index
-/

@[expose] public section

set_option maxRecDepth 16384

noncomputable section

namespace Cert.Reference4Ideal.Value
open Cert.Reference4Ideal Cert.Reference4Ideal.Gen Idealize.ShloMosaic
open Cert.Kernel2Ideal.Gen (rowScale)

/-- The sums of squares of the rows. -/
def sq (x : FVec Ideal S16384x2048 .f32) : FVec Ideal S16384 .f32 :=
  Host.reduceAdd (mulf x x) (constant S_ .f32 0x00000000#32) reducesTo_S16384x2048_S16384_d1 h_S_
/-- One over the root of the rows' mean squares. -/
def sc (x : FVec Ideal S16384x2048 .f32) : FVec Ideal S16384x1 .f32 :=
  Host.rsqrt (addf (Host.divf (broadcastInDim S16384x1 ![0] bcast_S16384_S16384x1_0 (sq x)) (broadcastInDim S16384x1 ![] bcast_S_S16384x1 (constant S_ .f32 0x45000000#32))) (broadcastInDim S16384x1 ![] bcast_S_S16384x1 (constant S_ .f32 0x358637BD#32)))
/-- The normalised rows. -/
def xn (x : FVec Ideal S16384x2048 .f32) (g : FVec Ideal S1x2048 .f32) : FVec Ideal S16384x2048 .f32 :=
  mulf (mulf x (broadcastInDim S16384x2048 ![0, 1] bcast_S16384x1_S16384x2048_0_1 (sc x))) (broadcastInDim S16384x2048 ![0, 1] bcast_S1x2048_S16384x2048_0_1 (broadcastInDim S1x2048 ![1] bcast_S2048_S1x2048_1 (shapeCast _ g shapeCasts_S1x2048_S2048)))
/-- The queries. -/
def qq (h : FVec Ideal S16384x2048 .f32) (w : FVec Ideal S1x2048x2048 .f32) : FVec Ideal S16384x2048 .f32 :=
  Host.dotGeneral dot_S16384x2048_S2048x2048_S16384x2048_1_0_0_1_n_n none h (shapeCast _ w shapeCasts_S1x2048x2048_S2048x2048)
/-- The scores of every head, half and key. -/
def ss (k : FVec Ideal S1x8x2x128x128 .f32) (q : FVec Ideal S16384x2048 .f32) : FVec Ideal S8x2x128x16384 .f32 :=
  Host.dotGeneral dot_S8x2x128x128_S16384x8x2x128_S8x2x128x16384_3_3_2_0_01_12 none (shapeCast _ k shapeCasts_S1x8x2x128x128_S8x2x128x128) (shapeCast _ q shapeCasts_S16384x2048_S16384x8x2x128)
/-- The scores as a matrix. -/
def mat (s : FVec Ideal S8x2x128x16384 .f32) : FVec Ideal S2048x16384 .f32 :=
  transpose S2048x16384 [1, 0] (shapeCast S16384x2048 (transpose S16384x8x2x128 [3, 0, 1, 2] s transposes_S8x2x128x16384_S16384x8x2x128_3_0_1_2) shapeCasts_S16384x8x2x128_S16384x2048) transposes_S16384x2048_S2048x16384_1_0

theorem sq_at (x : FVec Ideal S16384x2048 .f32) (r : Fin 16384) : sq x (ix1 r) = ∑ k : Fin 2048, x (ix2 r k) * x (ix2 r k) := by
  pointwise [sq]
theorem sc_at (x : FVec Ideal S16384x2048 .f32) (r : Fin 16384) : sc x (ix2 r 0) = rowScale (fun k => x (ix2 r k)) := by
  unfold rowScale
  rw [← sq_at]
  unfold sc
  generalize sq x = v
  pointwise []
theorem xn_at (x : FVec Ideal S16384x2048 .f32) (g : FVec Ideal S1x2048 .f32) (r : Fin 16384) (k : Fin 2048) :
    xn x g (ix2 r k) = x (ix2 r k) * rowScale (fun k => x (ix2 r k)) * g (ix2 0 k) := by
  rw [← sc_at]
  unfold xn
  generalize sc x = v
  pointwise []
theorem qq_at (h : FVec Ideal S16384x2048 .f32) (w : FVec Ideal S1x2048x2048 .f32) (r : Fin 16384) (n : Fin 2048) :
    qq h w (ix2 r n) = ∑ k : Fin 2048, h (ix2 r k) * w (ix3 0 k n) := by
  pointwise [qq]
theorem ss_at (k : FVec Ideal S1x8x2x128x128 .f32) (q : FVec Ideal S16384x2048 .f32) (h : Fin 8) (c : Fin 2) (j : Fin 128) (t : Fin 16384) :
    ss k q (ix4 h c j t) = ∑ d : Fin 128, k (ix5 0 h c j d) * q (ix2 t ⟨h.val * 256 + c.val * 128 + d.val, by omega⟩) := by
  pointwise [ss]
theorem mat_at (s : FVec Ideal S8x2x128x16384 .f32) (n : Fin 2048) (t : Fin 16384) :
    mat s (ix2 n t) = s (ix4 ⟨n.val / 256, by omega⟩ ⟨n.val / 128 % 2, by omega⟩ ⟨n.val % 128, by omega⟩ t) := by
  pointwise [mat]

end Cert.Reference4Ideal.Value
-- ==== Proof.Arrays4.lean ====
module

public import proofs.«01_k».proof.Proof.Gen.Kernel4Ideal.Frame
public import proofs.«01_k».proof.Proof.Arrays2

/-!
# The fourth program's arrays, at an index
-/

@[expose] public section

set_option maxRecDepth 16384

noncomputable section

namespace Cert.Kernel4Ideal.Gen
open Idealize.ShloMosaic Idealize.ShloMosaic.TcCoe Cert.Kernel4Ideal
open Idealize.ShloMosaic.Pipeline (Dat Cfg Window BodyObligation cellOf)
open Cert.Kernel2Ideal.Gen (rowScale)

theorem ix0_0 : ∀ t : Fin cfg0.N, win0_0.index t = ![(grid0.coords t 0).val, 0, 0] := (by decide +kernel : ∀ t : Fin grid0.N, _)
theorem ix0_1 : ∀ t : Fin cfg0.N, win0_1.index t = ![0, (grid0.coords t 0).val] := (by decide +kernel : ∀ t : Fin grid0.N, _)
theorem ix0_2 : ∀ t : Fin cfg0.N, win0_2.index t = ![(grid0.coords t 0).val, 0] := (by decide +kernel : ∀ t : Fin grid0.N, _)
theorem ix1_0 : ∀ t : Fin cfg1.N, win1_0.index t = ![(grid1.coords t 0).val, 0] := (by decide +kernel : ∀ t : Fin grid1.N, _)
theorem ix1_1 : ∀ t : Fin cfg1.N, win1_1.index t = ![0, 0] := (by decide +kernel : ∀ t : Fin grid1.N, _)
theorem ix1_2 : ∀ t : Fin cfg1.N, win1_2.index t = ![0, (grid1.coords t 0).val] := (by decide +kernel : ∀ t : Fin grid1.N, _)
theorem ix2_0 : ∀ t : Fin cfg2.N, win2_0.index t = ![(grid2.coords t 0).val, 0] := (by decide +kernel : ∀ t : Fin grid2.N, _)
theorem ix2_1 : ∀ t : Fin cfg2.N, win2_1.index t = ![0, (grid2.coords t 1).val] := (by decide +kernel : ∀ t : Fin grid2.N, _)
theorem ix2_2 : ∀ t : Fin cfg2.N, win2_2.index t = ![(grid2.coords t 0).val, (grid2.coords t 1).val] := (by decide +kernel : ∀ t : Fin grid2.N, _)

/-- The keys of one head and half times that half's columns of the query projection. -/
def G0 (k : Vec Ideal S16x128x128 .f32) (w : Vec Ideal S2048x2048 .f32) : Vec Ideal S2048x2048 .bf16 := fun y =>
  ∑ d : Fin 128, k (ix3 ⟨(y 0).val / 128, by have := (y 0).isLt; simp [S2048x2048] at this; omega⟩ ⟨(y 0).val % 128, by omega⟩ d)
    * w (ix2 (y 1) ⟨(y 0).val / 128 * 128 + d.val, by have := (y 0).isLt; simp [S2048x2048] at this; omega⟩)
/-- The rows normalised and weighted, transposed. -/
def G1 (x : Vec Ideal S16384x2048 .f32) (g : Vec Ideal S1x2048 .f32) : Vec Ideal S2048x16384 .bf16 := fun y =>
  x (ix2 (y 1) (y 0)) * rowScale (fun k => x (ix2 (y 1) k)) * g (ix2 0 (y 0))
/-- The product of the two. -/
def G2 (x : Vec Ideal S2048x2048 .bf16) (w : Vec Ideal S2048x16384 .bf16) : Vec Ideal S2048x16384 .f32 := fun y =>
  ∑ k : Fin 2048, x (ix2 (y 0) k) * w (ix2 k (y 1))

theorem pay0_at (k : Vec Ideal S1x128x128 .f32) (w : Vec Ideal S2048x128 .f32) (y : S128x2048.Idx) :
    k0_pay1 k w y = ∑ d : Fin 128, k (ix3 0 (y 0) d) * w (ix2 (y 1) d) := by
  pointwise [k0_pay1]

theorem pay1_at (x : Vec Ideal S512x2048 .f32) (g : Vec Ideal S1x2048 .f32) (y : S2048x512.Idx) :
    k1_pay1 x g y = x (ix2 (y 1) (y 0)) * rowScale (fun k => x (ix2 (y 1) k)) * g (ix2 0 (y 0)) := by
  unfold rowScale
  pointwise [k1_pay1]

variable (V : (c : Dev nD) → (b : Ref sig .tc) → Buf (Elt Ideal) ((c : Thread nD τ).loc b))

theorem arr0 (c : Dev nD) : (dat0 V c).arrAt 2 cfg0.N = G0 (V c main_v2) (V c main_v1) := by
  refine (dat0 V c).arrAt_eq_of_covers 2 _ (by decide +kernel) fun t hf y => ?_
  blk_simp
  rw [after0_2]
  frame_out
  refine (pay0_at _ _ y).trans ?_
  unfold G0
  blk_point [iblk0, ix0_0 t, ix0_1 t, ix0_2 t]

theorem arr1 (c : Dev nD) : (dat1 V c).arrAt 2 cfg1.N = G1 (V c main_arg0) (V c main_v5) := by
  refine (dat1 V c).arrAt_eq_of_covers 2 _ (by decide +kernel) fun t hf y => ?_
  blk_simp
  rw [after1_2]
  frame_out
  refine (pay1_at _ _ y).trans ?_
  unfold G1 rowScale
  blk_point [iblk1, ix1_0 t, ix1_1 t, ix1_2 t]
  blk_point [ix1_0 t, ix1_2 t]

theorem arr2 (c : Dev nD) : (dat2 V c).arrAt 2 cfg2.N = G2 (V c main_v3) (V c main_v6) := by
  refine (dat2 V c).arrAt_eq_of_covers 2 _ (by decide +kernel) fun t hf y => ?_
  blk_simp
  rw [after2_2]
  frame_out
  pointwise [k2_pay1, G2]
  blk_point [iblk2, ix2_0 t, ix2_1 t, ix2_2 t]

variable (m : (ℓ : Loc nD τ sig) → Buf (Elt Ideal) ℓ) (ρ : Dev nD → PrngReg)
theorem v1_eq (c : Dev nD) (k n : Fin 2048) : (W1 m ρ c (Proc.devRef .tc main_v1) : Vec Ideal S2048x2048 .f32) (ix2 k n)
    = (m ((c : Thread nD τ).loc main_arg2) : Vec Ideal S1x2048x2048 .f32) (ix3 0 k n) := by
  unfold W1
  after_reads_at
theorem v2_eq (c : Dev nD) (h : Fin 16) (k d : Fin 128) : (W1 m ρ c (Proc.devRef .tc main_v2) : Vec Ideal S16x128x128 .f32) (ix3 h k d)
    = (m ((c : Thread nD τ).loc main_arg3) : Vec Ideal S1x8x2x128x128 .f32) (ix5 0 ⟨h.val / 2, by omega⟩ ⟨h.val % 2, by omega⟩ k d) := by
  unfold W1
  after_reads_at
theorem v5_eq (c : Dev nD) (r : Fin 2048) : (W3 m ρ c (Proc.devRef .tc main_v5) : Vec Ideal S1x2048 .f32) (ix2 0 r)
    = (W2 m ρ c (Proc.devRef .tc main_arg1) : Vec Ideal S1x2048 .f32) (ix2 0 r) := by
  unfold W3
  after_reads_at

end Cert.Kernel4Ideal.Gen
-- ==== Proof.Value4.lean ====
module

public import proofs.«01_k».proof.Proof.Ref4
public import proofs.«01_k».proof.Proof.Arrays4
public import proofs.«01_k».proof.Proof.Math

/-!
# The fourth program's result is the reference's
-/

@[expose] public section

set_option maxRecDepth 16384

noncomputable section

namespace Cert.Kernel4Ideal.Gen
open Idealize.ShloMosaic Idealize.ShloMosaic.TcCoe Cert.Kernel4Ideal
open Cert.Kernel2Ideal.Gen (rowScale)
open Cert.Reference4Ideal.Value (xn qq ss mat xn_at qq_at ss_at mat_at)

theorem width_bits : Ideal.ofBits .f32 0x45000000#32 = ((2048 : ℝ) : EReal) := by
  simp [Ideal.ofBits, Ideal.ieee, -EReal.coe_mul]; norm_num
theorem eps_bits : ∃ e : ℝ, 0 < e ∧ Ideal.ofBits .f32 0x358637BD#32 = (e : EReal) := by
  refine ⟨_, ?_, by simp [Ideal.ofBits, Ideal.ieee, -EReal.coe_mul]; rfl⟩
  norm_num

/-- A row of reals has a real scale. -/
theorem rowScale_real (x : Fin 2048 → ℝ) : ∃ r : ℝ, rowScale (fun k => (x k : EReal)) = (r : EReal) := by
  obtain ⟨e, he, hb⟩ := eps_bits
  have hs : 0 ≤ ∑ k, x k * x k := Finset.sum_nonneg fun k _ => mul_self_nonneg _
  have hp : 0 < (∑ k, x k * x k) * (2048 : ℝ)⁻¹ + e := by positivity
  refine ⟨(Real.sqrt ((∑ k, x k * x k) * (2048 : ℝ)⁻¹ + e))⁻¹, ?_⟩
  unfold rowScale
  rw [width_bits, hb]
  simp only [← EReal.coe_mul, Cert.Math.coe_sum]
  have hd : Ideal.div ((∑ k, x k * x k : ℝ) : EReal) ((2048 : ℝ) : EReal) = (((∑ k, x k * x k) * (2048 : ℝ)⁻¹ : ℝ) : EReal) := by
    unfold Ideal.div
    rw [if_neg (by norm_num), EReal.coe_mul, EReal.coe_inv]
  rw [hd, ← EReal.coe_add]
  show (if (∑ k, x k * x k) * (2048 : ℝ)⁻¹ + e < 0 then (⊥ : EReal) else if (∑ k, x k * x k) * (2048 : ℝ)⁻¹ + e = 0 then ⊤ else _) = _
  rw [if_neg (not_lt.mpr hp.le), if_neg hp.ne']

/-- Over the reals the keys may meet the projection before the rows do. -/
theorem swap (K : Fin 128 → ℝ) (w : Fin 2048 → Fin 128 → ℝ) (x : Fin 2048 → ℝ) :
    (∑ D : Fin 2048, (∑ d : Fin 128, (K d : EReal) * (w D d : EReal)) * (x D : EReal))
      = ∑ d : Fin 128, (K d : EReal) * ∑ D : Fin 2048, (x D : EReal) * (w D d : EReal) := by
  simp only [← EReal.coe_mul, Cert.Math.coe_sum]
  refine congrArg _ ?_
  simp only [Finset.sum_mul, Finset.mul_sum]
  rw [Finset.sum_comm]
  exact Finset.sum_congr rfl fun d _ => Finset.sum_congr rfl fun D _ => by ring

/-- The same for extended reals that are real. -/
theorem swap_of (K : Fin 128 → EReal) (w : Fin 2048 → Fin 128 → EReal) (x : Fin 2048 → EReal)
    (hK : ∀ d, ∃ r : ℝ, K d = (r : EReal)) (hw : ∀ D d, ∃ r : ℝ, w D d = (r : EReal)) (hx : ∀ D, ∃ r : ℝ, x D = (r : EReal)) :
    (∑ D : Fin 2048, (∑ d : Fin 128, K d * w D d) * x D) = ∑ d : Fin 128, K d * ∑ D : Fin 2048, x D * w D d := by
  choose fK hK using hK
  choose fw hw using hw
  choose fx hx using hx
  simp only [hK, hw, hx]
  exact swap fK fw fx

/-- A row that holds an infinity has scale zero: its mean square is infinite. -/
theorem rowScale_inf (x : Fin 2048 → EReal) (k : Fin 2048) (hk : x k * x k = ⊤) : rowScale x = 0 := by
  obtain ⟨e, he, hb⟩ := eps_bits
  have h0 : ∀ j, 0 ≤ x j * x j := fun j => by
    induction x j using EReal.rec with
    | bot => simp
    | top => simp
    | coe r => rw [← EReal.coe_mul]; exact_mod_cast mul_self_nonneg r
  have hs : (∑ j, x j * x j) = ⊤ := top_le_iff.mp (hk ▸ Finset.single_le_sum (f := fun j => x j * x j) (fun j _ => h0 j) (Finset.mem_univ k))
  have hd : Ideal.div (⊤ : EReal) ((2048 : ℝ) : EReal) = ⊤ := by
    unfold Ideal.div
    rw [if_neg (by norm_num), ← EReal.coe_inv]
    exact EReal.top_mul_coe_of_pos (by norm_num)
  unfold rowScale
  rw [width_bits, hb, hs, hd, EReal.top_add_coe]
  rfl

/-- Real weights make real normalised rows: a row that holds an infinity becomes zero. -/
theorem xn_real (x : FVec Ideal S16384x2048 .f32) (g : FVec Ideal S1x2048 .f32) (hg : ∀ j, ∃ r : ℝ, g j = (r : EReal))
    (t : Fin 16384) (k : Fin 2048) : ∃ r : ℝ, xn x g (ix2 t k) = (r : EReal) := by
  rw [xn_at]
  obtain ⟨b, hb⟩ := hg (ix2 0 k)
  rw [hb]
  by_cases hx : ∀ j, ∃ r : ℝ, x (ix2 t j) = (r : EReal)
  · choose fx hx using hx
    simp only [hx]
    obtain ⟨s, hs⟩ := rowScale_real fx
    rw [hs]
    exact ⟨fx k * s * b, by rw [EReal.coe_mul, EReal.coe_mul]⟩
  · obtain ⟨j, hj⟩ := not_forall.mp hx
    rw [rowScale_inf (fun k => x (ix2 t k)) j ?_, mul_zero, zero_mul]
    · exact ⟨0, rfl⟩
    · show x (ix2 t j) * x (ix2 t j) = ⊤
      generalize x (ix2 t j) = v at hj
      induction v using EReal.rec with
      | bot => rfl
      | top => rfl
      | coe r => exact absurd ⟨r, rfl⟩ hj

/-- A row of the keys folded into the query projection. -/
def kp (k : FVec Ideal S1x8x2x128x128 .f32) (w : FVec Ideal S1x2048x2048 .f32) (n D : Fin 2048) : EReal :=
  ∑ d : Fin 128, k (ix5 0 ⟨n.val / 256, by omega⟩ ⟨n.val / 128 % 2, by omega⟩ ⟨n.val % 128, by omega⟩ d)
    * w (ix3 0 D ⟨n.val / 256 * 256 + n.val / 128 % 2 * 128 + d.val, by omega⟩)

/-- The folded keys times the rows are the reference's scores, for finite arguments. -/
theorem scores_at (x : FVec Ideal S16384x2048 .f32) (g : FVec Ideal S1x2048 .f32) (w : FVec Ideal S1x2048x2048 .f32) (k : FVec Ideal S1x8x2x128x128 .f32)
    (h1 : ∀ j, ∃ r : ℝ, g j = (r : EReal)) (h2 : ∀ j, ∃ r : ℝ, w j = (r : EReal)) (h3 : ∀ j, ∃ r : ℝ, k j = (r : EReal))
    (n : Fin 2048) (t : Fin 16384) :
    (∑ D : Fin 2048, kp k w n D * xn x g (ix2 t D)) = mat (ss k (qq (xn x g) w)) (ix2 n t) := by
  rw [mat_at, ss_at]
  simp only [qq_at]
  have hX := xn_real x g h1 t
  generalize xn x g = X at hX
  unfold kp
  exact swap_of (fun d => k (ix5 0 ⟨n.val / 256, by omega⟩ ⟨n.val / 128 % 2, by omega⟩ ⟨n.val % 128, by omega⟩ d))
    (fun D d => w (ix3 0 D ⟨n.val / 256 * 256 + n.val / 128 % 2 * 128 + d.val, by omega⟩)) (fun D => X (ix2 t D))
    (fun d => h3 _) (fun D d => h2 _) hX

variable (m : (ℓ : Loc nD τ sig) → Buf (Elt Ideal) ℓ) (ρ : Dev nD → PrngReg) (c : Dev nD)

/-- The folded keys the first call leaves. -/
theorem keys_at (n : Fin 2048) (k : Fin 2048) : (W4 m ρ c (Proc.devRef .tc main_v3) : Vec Ideal S2048x2048 .bf16) (ix2 n k)
    = kp (m ((c : Thread nD τ).loc main_arg3)) (m ((c : Thread nD τ).loc main_arg2)) n k := by
  refine (congrFun ((W4_of_ne m ρ c main_v3 (by decide)).trans ((W3_of m ρ c main_v3 (by decide)).trans
    ((W2_arr m ρ c 2).trans (arr0 (V1 m ρ) c)))) (ix2 n k)).trans ?_
  refine @Finset.sum_congr _ EReal _ _ _ _ _ rfl fun d _ => congrArg₂ (fun u v : EReal => u * v) ?_ ?_
  · refine (v2_eq m ρ c ⟨n.val / 128, by omega⟩ ⟨n.val % 128, by omega⟩ d).trans ?_
    have e : (⟨n.val / 128 / 2, by omega⟩ : Fin 8) = ⟨n.val / 256, by omega⟩ := Fin.ext (by show n.val / 128 / 2 = n.val / 256; omega)
    exact congrArg (fun h : Fin 8 => (m ((c : Thread nD τ).loc main_arg3) : Vec Ideal S1x8x2x128x128 .f32) (ix5 0 h ⟨n.val / 128 % 2, by omega⟩ ⟨n.val % 128, by omega⟩ d)) e
  · refine (v1_eq m ρ c k ⟨n.val / 128 * 128 + d.val, by omega⟩).trans ?_
    have e : (⟨n.val / 128 * 128 + d.val, by omega⟩ : Fin 2048) = ⟨n.val / 256 * 256 + n.val / 128 % 2 * 128 + d.val, by omega⟩ :=
      Fin.ext (by show n.val / 128 * 128 + d.val = n.val / 256 * 256 + n.val / 128 % 2 * 128 + d.val; omega)
    exact congrArg (fun h : Fin 2048 => (m ((c : Thread nD τ).loc main_arg2) : Vec Ideal S1x2048x2048 .f32) (ix3 0 k h)) e

/-- The normalised rows the second call leaves are the reference's, transposed. -/
theorem rows_at (k : Fin 2048) (t : Fin 16384) : (W4 m ρ c (Proc.devRef .tc main_v6) : Vec Ideal S2048x16384 .bf16) (ix2 k t)
    = xn (m ((c : Thread nD τ).loc main_arg0)) (m ((c : Thread nD τ).loc main_arg1)) (ix2 t k) := by
  refine (congrFun ((W4_arr m ρ c 2).trans (arr1 (V3 m ρ) c)) (ix2 k t)).trans ?_
  rw [xn_at]
  have hW := W3_args m ρ c main_arg0 (by decide)
  exact congrArg₂ (fun u v : EReal => u * v) (congrArg₂ (fun u v : EReal => u * v) (congrFun hW (ix2 t k))
    (congrArg rowScale (funext fun k => congrFun hW (ix2 t k))))
    ((v5_eq m ρ c k).trans (congrFun (W2_args m ρ c main_arg1 (by decide)) (ix2 0 k)))

/-- The fourth result array is the reference's, for finite weights and keys. -/
theorem result (h1 : ∀ j, ∃ r : ℝ, (m ((c : Thread nD τ).loc main_arg1) : Vec Ideal S1x2048 .f32) j = (r : EReal))
    (h2 : ∀ j, ∃ r : ℝ, (m ((c : Thread nD τ).loc main_arg2) : Vec Ideal S1x2048x2048 .f32) j = (r : EReal))
    (h3 : ∀ j, ∃ r : ℝ, (m ((c : Thread nD τ).loc main_arg3) : Vec Ideal S1x8x2x128x128 .f32) j = (r : EReal)) :
    (W5 m ρ c (Proc.devRef .tc main_v7) : Vec Ideal S2048x16384 .f32)
      = mat (ss (m ((c : Thread nD τ).loc main_arg3)) (qq (xn (m ((c : Thread nD τ).loc main_arg0)) (m ((c : Thread nD τ).loc main_arg1))) (m ((c : Thread nD τ).loc main_arg2)))) := by
  refine funext fun y => ?_
  obtain ⟨n, t, rfl⟩ : ∃ (n : Fin 2048) (t : Fin 16384), y = ix2 n t := ⟨y 0, y 1, funext fun a => by fin_cases a <;> rfl⟩
  refine (congrFun ((W5_arr m ρ c 2).trans (arr2 (V4 m ρ) c)) (ix2 n t)).trans ?_
  refine Eq.trans (@Finset.sum_congr _ EReal _ _ _ _ _ rfl fun k _ => congrArg₂ (fun u v : EReal => u * v) (keys_at m ρ c n k) (rows_at m ρ c k t)) ?_
  exact scores_at _ _ _ _ h1 h2 h3 n t

end Cert.Kernel4Ideal.Gen
-- ==== Proof.Run4.lean ====
module

public import proofs.«01_k».proof.Proof.Gen.Kernel4Ideal.Frame
public import Idealize.ShloMosaic.Lib.Pointwise

/-!
# The fourth program's run with its result
-/

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The kernel runs; its results are the last segment's, its arguments end unchanged and every counter is zero. -/
theorem run : θ_run defs (onTc (τ := τ) (main (F := Ideal))) ⟨m, fun _ => 0, ρ⟩ (fun r => (∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end Cert.Kernel4Ideal.Gen
-- ==== Proof.lean ====
module

public import proofs.«01_k».proof.Defs
public import proofs.«01_k».proof.Proof.FrameKernel
public import proofs.«01_k».proof.Proof.Run
public import proofs.«01_k».proof.Proof.Gen.Kernel2.Frame
public import proofs.«01_k».proof.Proof.Gen.Kernel3.Frame
public import proofs.«01_k».proof.Proof.Value2
public import proofs.«01_k».proof.Proof.Value3
public import proofs.«01_k».proof.Proof.Run2
public import proofs.«01_k».proof.Proof.Run3
public import proofs.«01_k».proof.Proof.Gen.Kernel4.Frame
public import proofs.«01_k».proof.Proof.Value4
public import proofs.«01_k».proof.Proof.Run4
public import Idealize.ShloMosaic.Adequacy
public import Idealize.ShloMosaic.Init

@[expose] public section

set_option maxRecDepth 16384

noncomputable section

namespace Cert.Proof

open Idealize.ShloMosaic Idealize.SL.Sem

/-- The reference runs, leaves its arguments as they were and every counter at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The side conditions the precondition's operations take. -/
theorem pre_facts : Cert.Pre_finite.Facts where
  bcast_S_S16384x2048 := by decide
  slices_S1x2048x12288_S1x2048x3072_0_0_5120 := by decide
  bcast_S_S1x2048x3072 := by decide
  bcast_S_S1x4x64 := by decide

open Cert.KernelIdeal.Gen in
/-- Where the precondition holds, the reference's result is the array the kernel leaves. -/
theorem same [hP : Cert.Pre_finite.Facts] (m : (ℓ : Loc Cert.KernelIdeal.nD Cert.KernelIdeal.τ Cert.KernelIdeal.sig) → Buf (Elt Ideal) ℓ) (ρ : Dev Cert.KernelIdeal.nD → PrngReg)
    (hpre : Cert.Pre_KernelIdeal_finite m) (c : Dev Cert.KernelIdeal.nD) :
    Cert.ReferenceIdeal.Value.rv97 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      = W5 m ρ c (Proc.devRef .tc Cert.KernelIdeal.main_v14) := by
  obtain ⟨h0, h1, h2⟩ := hpre c
  obtain ⟨P, hP⟩ := proj_real (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (fun j => real_bf16 _ _ h0 j)
    (fun k n => by
      obtain ⟨r, hr⟩ := real_f32 _ _ h1 (ix3 0 k n)
      refine ⟨r, Eq.trans (congrArg (m ((c.tc : Thread Cert.KernelIdeal.nD Cert.KernelIdeal.τ).loc Cert.KernelIdeal.main_arg1)) (funext fun a => Fin.ext ?_)) hr⟩
      fin_cases a
      · rfl
      · show k.val = 0 + k.val; omega
      · rfl)
  obtain ⟨lam, hlam⟩ := lam_real (m ((c.tc : Thread Cert.KernelIdeal.nD Cert.KernelIdeal.τ).loc Cert.KernelIdeal.main_arg2)) (fun j => real_f32 _ _ h2 j)
  exact (Cert.ReferenceIdeal.Value.ref_result _ _ _ _ P hP lam hlam).trans (result c m ρ P hP).symm

/-- Kernel and reference end with equal results. -/
theorem value [hP : Cert.Pre_finite.Facts] : Cert.algebraic_KernelIdeal_ReferenceIdeal_pre_finite := fun m ρ m' ρ' hpre hargs =>
  ⟨fun c => Cert.KernelIdeal.Gen.W5 m ρ c (Proc.devRef .tc Cert.KernelIdeal.main_v14),
    (θ_run Cert.KernelIdeal.defs _ _).mono (fun _ h => h.1) (Cert.KernelIdeal.Gen.run m ρ),
    (θ_run Cert.ReferenceIdeal.defs _ _).mono (fun r h c => ⟨by
        obtain ⟨e0, e1, e2, e3⟩ := hargs c
        rw [(h c).1, Cert.ReferenceIdeal.Value.res_eq, e0, e1, e2, e3]
        exact same m ρ hpre c, (h c).2⟩)
      (Cert.ReferenceIdeal.Value.run (F := Ideal) m' ρ')⟩

/-- The second reference runs, leaves its arguments as they were and every counter at zero. -/
theorem frame_ri2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The third reference runs, leaves its arguments as they were and every counter at zero. -/
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The second program and its reference end with equal results. -/
theorem value2 : Cert.algebraic_Kernel2Ideal_Reference2Ideal := fun m ρ m' ρ' _ hargs =>
  ⟨fun c => Cert.Kernel2Ideal.Gen.W4 m ρ c (Proc.devRef .tc Cert.Kernel2Ideal.main_v8),
    fun c => Cert.Kernel2Ideal.Gen.W4 m ρ c (Proc.devRef .tc Cert.Kernel2Ideal.main_v9),
    (θ_run Cert.Kernel2Ideal.defs _ _).mono (fun _ h => h.1) (Cert.Kernel2Ideal.Gen.run m ρ),
    (θ_run Cert.Reference2Ideal.defs _ _).mono (fun r h c => ⟨by
        obtain ⟨e0, e1, e2⟩ := hargs c
        rw [(h c).1, e0, e1, e2]
        exact (Cert.Kernel2Ideal.Gen.result0 m ρ c).symm, by
        obtain ⟨e0, e1, e2⟩ := hargs c
        rw [(h c).2.1, e0, e1, e2]
        exact (Cert.Kernel2Ideal.Gen.result1 m ρ c).symm, (h c).2.2⟩)
      (Cert.Reference2Ideal.Value.run (F := Ideal) m' ρ')⟩

/-- The third program and its reference end with equal results. -/
theorem value3 : Cert.algebraic_Kernel3Ideal_Reference3Ideal := fun m ρ m' ρ' _ hargs =>
  ⟨fun c => Cert.Kernel3Ideal.Gen.W4 m ρ c (Proc.devRef .tc Cert.Kernel3Ideal.main_v9),
    (θ_run Cert.Kernel3Ideal.defs _ _).mono (fun _ h => h.1) (Cert.Kernel3Ideal.Gen.run m ρ),
    (θ_run Cert.Reference3Ideal.defs _ _).mono (fun r h c => ⟨by
        obtain ⟨e0, e1, e2, e3, e4, e5, e6, e7, e8, e9⟩ := hargs c
        rw [(h c).1, e0, e1, e2, e3, e4, e5, e6, e7, e8, e9]
        exact (Cert.Kernel3Ideal.Gen.result m ρ c).symm, (h c).2⟩)
      (Cert.Reference3Ideal.Value.run (F := Ideal) m' ρ')⟩

/-- The fourth reference runs, leaves its arguments as they were and every counter at zero. -/
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The side conditions of the fourth program's precondition. -/
theorem pre_facts4 : Cert.Pre_finite4.Facts where
  bcast_S_S1x2048 := by decide
  bcast_S_S1x2048x2048 := by decide
  bcast_S_S1x8x2x128x128 := by decide

/-- The fourth program and its reference end with equal results. -/
theorem value4 [hP : Cert.Pre_finite4.Facts] : Cert.algebraic_Kernel4Ideal_Reference4Ideal_pre_finite4 := fun m ρ m' ρ' hpre hargs =>
  ⟨fun c => Cert.Kernel4Ideal.Gen.W5 m ρ c (Proc.devRef .tc Cert.Kernel4Ideal.main_v7),
    (θ_run Cert.Kernel4Ideal.defs _ _).mono (fun _ h => h.1) (Cert.Kernel4Ideal.Gen.run m ρ),
    (θ_run Cert.Reference4Ideal.defs _ _).mono (fun r h c => ⟨by
        obtain ⟨e0, e1, e2, e3⟩ := hargs c
        obtain ⟨h1, h2, h3⟩ := hpre c
        rw [(h c).1, e0, e1, e2, e3]
        exact (Cert.Kernel4Ideal.Gen.result m ρ c (fun j => Cert.KernelIdeal.Gen.real_f32 _ _ h1 j)
          (fun j => Cert.KernelIdeal.Gen.real_f32 _ _ h2 j) (fun j => Cert.KernelIdeal.Gen.real_f32 _ _ h3 j)).symm, (h c).2⟩)
      (Cert.Reference4Ideal.Value.run (F := Ideal) m' ρ')⟩

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, pre_facts, pre_facts4,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, fun m ρ _ => Cert.Kernel4Ideal.Gen.frame m ρ,
  frame_ri4, fun m ρ _ => frame_ri4 m ρ trivial,
  trivial, value (hP := pre_facts), trivial, value2, trivial, value3, trivial, value4 (hP := pre_facts4)⟩

end Cert.Proof

end
